-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 4, 4] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 1024]⟩ (Layout.meshBlock [2, 4, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x512 : Shape := ⟨2, ![1024, 512]⟩
abbrev S256x512 : Shape := ⟨2, ![256, 512]⟩
abbrev S104x512 : Shape := ⟨2, ![104, 512]⟩
abbrev S72x512 : Shape := ⟨2, ![72, 512]⟩
abbrev S80x512 : Shape := ⟨2, ![80, 512]⟩
abbrev S5 : Shape := ⟨1, ![5]⟩
abbrev S_ : Shape := ⟨0, ![]⟩
abbrev S1 : Shape := ⟨1, ![1]⟩
abbrev S64x512 : Shape := ⟨2, ![64, 512]⟩
abbrev S1x64x512 : Shape := ⟨3, ![1, 64, 512]⟩
abbrev S1x104x512 : Shape := ⟨3, ![1, 104, 512]⟩
abbrev S1x72x512 : Shape := ⟨3, ![1, 72, 512]⟩
abbrev S1x80x512 : Shape := ⟨3, ![1, 80, 512]⟩

abbrev nBuf : Space → Nat
  | .hbm => 2
  | .vmem => 8
  | .smem => 0
  | _ => 0

abbrev bufTy : (tb : Table) → Fin (tcTables nBuf tb) → BufTy
  | .hbm, ⟨0, _⟩ => ⟨S1x1024x1024, .f32⟩
  | .hbm, ⟨1, _⟩ => ⟨S1024x512, .f32⟩
  | .local _ .vmem, ⟨0, _⟩ => ⟨S1x1024x1024, .f32⟩
  | .local _ .vmem, ⟨1, _⟩ => ⟨S1024x512, .f32⟩
  | .local _ .vmem, ⟨2, _⟩ => ⟨S256x512, .f32⟩
  | .local _ .vmem, ⟨3, _⟩ => ⟨S104x512, .f32⟩
  | .local _ .vmem, ⟨4, _⟩ => ⟨S256x512, .f32⟩
  | .local _ .vmem, ⟨5, _⟩ => ⟨S72x512, .f32⟩
  | .local _ .vmem, ⟨6, _⟩ => ⟨S256x512, .f32⟩
  | .local _ .vmem, ⟨7, _⟩ => ⟨S80x512, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_10 : BitVec 32 := 16#32
  let v19 : BitVec 32 := Scalar.muli v11 c16_i32_10
  let v20 : BitVec 32 := Scalar.addi c0_i32 v19
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_11 : BitVec 32 := 4#32
  let v21 : BitVec 32 := Scalar.muli v5 c4_i32_11
  let v22 : BitVec 32 := Scalar.addi v20 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v23 : BitVec 32 := Scalar.muli v8 c1_i32_12
  let v24 : BitVec 32 := Scalar.addi v22 v23
  v24.toNat
def k0_dev2 (d0 : Dev nD) : Nat :=
  let c0_i32_15 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_14 : BitVec 32 := 16#32
  let v25 : BitVec 32 := Scalar.muli v2 c16_i32_14
  let v26 : BitVec 32 := Scalar.addi c0_i32_15 v25
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_16 : BitVec 32 := 4#32
  let v27 : BitVec 32 := Scalar.muli v14 c4_i32_16
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v29 : BitVec 32 := Scalar.muli v8 c1_i32_17
  let v30 : BitVec 32 := Scalar.addi v28 v29
  v30.toNat
def k0_dev3 (d0 : Dev nD) : Nat :=
  let c0_i32_20 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_19 : BitVec 32 := 16#32
  let v31 : BitVec 32 := Scalar.muli v2 c16_i32_19
  let v32 : BitVec 32 := Scalar.addi c0_i32_20 v31
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_21 : BitVec 32 := 4#32
  let v33 : BitVec 32 := Scalar.muli v5 c4_i32_21
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_22 : BitVec 32 := 1#32
  let v35 : BitVec 32 := Scalar.muli v17 c1_i32_22
  let v36 : BitVec 32 := Scalar.addi v34 v35
  v36.toNat
def k0_off1 (d0 : Dev nD) (c128_i32 : BitVec 32) : Fin 3 → Nat :=
  let c0_i32_36 : BitVec 32 := 0#32
  let c2_i32_25 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v40 : BitVec 32 := Scalar.muli c2_i32_25 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v41 : BitVec 32 := Scalar.addi v40 v10
  let c256_i32 : BitVec 32 := 256#32
  let v42 : BitVec 32 := Scalar.muli v41 c256_i32
  let v56 : BitVec 32 := Scalar.addi v42 c128_i32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v37 : BitVec 32 := Scalar.subi c1_i32_23 v2
  let c512_i32 : BitVec 32 := 512#32
  let v38 : BitVec 32 := Scalar.muli v37 c512_i32
  ![0, v56.toNat, v38.toNat]
def k0_dev4 (d0 : Dev nD) : Nat :=
  let c0_i32_40 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_39 : BitVec 32 := 16#32
  let v57 : BitVec 32 := Scalar.muli v11 c16_i32_39
  let v58 : BitVec 32 := Scalar.addi c0_i32_40 v57
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_41 : BitVec 32 := 4#32
  let v59 : BitVec 32 := Scalar.muli v5 c4_i32_41
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v61 : BitVec 32 := Scalar.muli v8 c1_i32_42
  let v62 : BitVec 32 := Scalar.addi v60 v61
  v62.toNat
def k0_dev5 (d0 : Dev nD) : Nat :=
  let c0_i32_49 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_48 : BitVec 32 := 16#32
  let v71 : BitVec 32 := Scalar.muli v11 c16_i32_48
  let v72 : BitVec 32 := Scalar.addi c0_i32_49 v71
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_50 : BitVec 32 := 4#32
  let v73 : BitVec 32 := Scalar.muli v5 c4_i32_50
  let v74 : BitVec 32 := Scalar.addi v72 v73
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v75 : BitVec 32 := Scalar.muli v8 c1_i32_51
  let v76 : BitVec 32 := Scalar.addi v74 v75
  v76.toNat
def k0_dev6 (d0 : Dev nD) : Nat :=
  let c0_i32_58 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_57 : BitVec 32 := 16#32
  let v85 : BitVec 32 := Scalar.muli v11 c16_i32_57
  let v86 : BitVec 32 := Scalar.addi c0_i32_58 v85
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_59 : BitVec 32 := 4#32
  let v87 : BitVec 32 := Scalar.muli v5 c4_i32_59
  let v88 : BitVec 32 := Scalar.addi v86 v87
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v89 : BitVec 32 := Scalar.muli v8 c1_i32_60
  let v90 : BitVec 32 := Scalar.addi v88 v89
  v90.toNat
def k0_dev7 (d0 : Dev nD) : Nat :=
  let c0_i32_68 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_67 : BitVec 32 := 16#32
  let v99 : BitVec 32 := Scalar.muli v11 c16_i32_67
  let v100 : BitVec 32 := Scalar.addi c0_i32_68 v99
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_69 : BitVec 32 := 4#32
  let v101 : BitVec 32 := Scalar.muli v5 c4_i32_69
  let v102 : BitVec 32 := Scalar.addi v100 v101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_70 : BitVec 32 := 1#32
  let v103 : BitVec 32 := Scalar.muli v8 c1_i32_70
  let v104 : BitVec 32 := Scalar.addi v102 v103
  v104.toNat
def k0_off2 (d0 : Dev nD) : Fin 3 → Nat :=
  let c0_i32_73 : BitVec 32 := 0#32
  let c2_i32_33 : BitVec 32 := 2#32
  let c1_i32_32 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v51 : BitVec 32 := Scalar.subi c1_i32_32 v9
  let v52 : BitVec 32 := Scalar.muli c2_i32_33 v51
  let c1_i32_34 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v53 : BitVec 32 := Scalar.subi c1_i32_34 v10
  let v54 : BitVec 32 := Scalar.addi v52 v53
  let c256_i32_35 : BitVec 32 := 256#32
  let v55 : BitVec 32 := Scalar.muli v54 c256_i32_35
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v37 : BitVec 32 := Scalar.subi c1_i32_23 v2
  let c512_i32 : BitVec 32 := 512#32
  let v38 : BitVec 32 := Scalar.muli v37 c512_i32
  ![0, v55.toNat, v38.toNat]
def k0_dev8 (d0 : Dev nD) : Nat :=
  let c0_i32_77 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_4 v2
  let c16_i32_76 : BitVec 32 := 16#32
  let v112 : BitVec 32 := Scalar.muli v11 c16_i32_76
  let v113 : BitVec 32 := Scalar.addi c0_i32_77 v112
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_78 : BitVec 32 := 4#32
  let v114 : BitVec 32 := Scalar.muli v5 c4_i32_78
  let v115 : BitVec 32 := Scalar.addi v113 v114
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_79 : BitVec 32 := 1#32
  let v116 : BitVec 32 := Scalar.muli v8 c1_i32_79
  let v117 : BitVec 32 := Scalar.addi v115 v116
  v117.toNat
def k0_dev9 (d0 : Dev nD) : Nat :=
  let c0_i32_92 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_91 : BitVec 32 := 16#32
  let v135 : BitVec 32 := Scalar.muli v2 c16_i32_91
  let v136 : BitVec 32 := Scalar.addi c0_i32_92 v135
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_93 : BitVec 32 := 4#32
  let v137 : BitVec 32 := Scalar.muli v14 c4_i32_93
  let v138 : BitVec 32 := Scalar.addi v136 v137
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v139 : BitVec 32 := Scalar.muli v8 c1_i32_94
  let v140 : BitVec 32 := Scalar.addi v138 v139
  v140.toNat
def k0_dev10 (d0 : Dev nD) : Nat :=
  let c0_i32_102 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_101 : BitVec 32 := 16#32
  let v147 : BitVec 32 := Scalar.muli v2 c16_i32_101
  let v148 : BitVec 32 := Scalar.addi c0_i32_102 v147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_103 : BitVec 32 := 4#32
  let v149 : BitVec 32 := Scalar.muli v5 c4_i32_103
  let v150 : BitVec 32 := Scalar.addi v148 v149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_104 : BitVec 32 := 1#32
  let v151 : BitVec 32 := Scalar.muli v17 c1_i32_104
  let v152 : BitVec 32 := Scalar.addi v150 v151
  v152.toNat
def k0_dev11 (d0 : Dev nD) : Nat :=
  let c0_i32_121 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_120 : BitVec 32 := 16#32
  let v170 : BitVec 32 := Scalar.muli v2 c16_i32_120
  let v171 : BitVec 32 := Scalar.addi c0_i32_121 v170
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_122 : BitVec 32 := 4#32
  let v172 : BitVec 32 := Scalar.muli v14 c4_i32_122
  let v173 : BitVec 32 := Scalar.addi v171 v172
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_123 : BitVec 32 := 1#32
  let v174 : BitVec 32 := Scalar.muli v8 c1_i32_123
  let v175 : BitVec 32 := Scalar.addi v173 v174
  v175.toNat
def k0_dev12 (d0 : Dev nD) : Nat :=
  let c0_i32_131 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_130 : BitVec 32 := 16#32
  let v182 : BitVec 32 := Scalar.muli v2 c16_i32_130
  let v183 : BitVec 32 := Scalar.addi c0_i32_131 v182
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_132 : BitVec 32 := 4#32
  let v184 : BitVec 32 := Scalar.muli v5 c4_i32_132
  let v185 : BitVec 32 := Scalar.addi v183 v184
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_133 : BitVec 32 := 1#32
  let v186 : BitVec 32 := Scalar.muli v17 c1_i32_133
  let v187 : BitVec 32 := Scalar.addi v185 v186
  v187.toNat
def k0_dev13 (d0 : Dev nD) : Nat :=
  let c0_i32_150 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_149 : BitVec 32 := 16#32
  let v205 : BitVec 32 := Scalar.muli v2 c16_i32_149
  let v206 : BitVec 32 := Scalar.addi c0_i32_150 v205
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_151 : BitVec 32 := 4#32
  let v207 : BitVec 32 := Scalar.muli v14 c4_i32_151
  let v208 : BitVec 32 := Scalar.addi v206 v207
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_152 : BitVec 32 := 1#32
  let v209 : BitVec 32 := Scalar.muli v8 c1_i32_152
  let v210 : BitVec 32 := Scalar.addi v208 v209
  v210.toNat
def k0_dev14 (d0 : Dev nD) : Nat :=
  let c0_i32_160 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_159 : BitVec 32 := 16#32
  let v217 : BitVec 32 := Scalar.muli v2 c16_i32_159
  let v218 : BitVec 32 := Scalar.addi c0_i32_160 v217
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_161 : BitVec 32 := 4#32
  let v219 : BitVec 32 := Scalar.muli v5 c4_i32_161
  let v220 : BitVec 32 := Scalar.addi v218 v219
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_162 : BitVec 32 := 1#32
  let v221 : BitVec 32 := Scalar.muli v17 c1_i32_162
  let v222 : BitVec 32 := Scalar.addi v220 v221
  v222.toNat
def k0_dev15 (d0 : Dev nD) : Nat :=
  let c0_i32_179 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_178 : BitVec 32 := 16#32
  let v240 : BitVec 32 := Scalar.muli v2 c16_i32_178
  let v241 : BitVec 32 := Scalar.addi c0_i32_179 v240
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_180 : BitVec 32 := 4#32
  let v242 : BitVec 32 := Scalar.muli v14 c4_i32_180
  let v243 : BitVec 32 := Scalar.addi v241 v242
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_181 : BitVec 32 := 1#32
  let v244 : BitVec 32 := Scalar.muli v8 c1_i32_181
  let v245 : BitVec 32 := Scalar.addi v243 v244
  v245.toNat
def k0_dev16 (d0 : Dev nD) : Nat :=
  let c0_i32_189 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_188 : BitVec 32 := 16#32
  let v252 : BitVec 32 := Scalar.muli v2 c16_i32_188
  let v253 : BitVec 32 := Scalar.addi c0_i32_189 v252
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_190 : BitVec 32 := 4#32
  let v254 : BitVec 32 := Scalar.muli v5 c4_i32_190
  let v255 : BitVec 32 := Scalar.addi v253 v254
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_191 : BitVec 32 := 1#32
  let v256 : BitVec 32 := Scalar.muli v17 c1_i32_191
  let v257 : BitVec 32 := Scalar.addi v255 v256
  v257.toNat
def k0_dev17 (d0 : Dev nD) : Nat :=
  let c0_i32_219 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_218 : BitVec 32 := 16#32
  let v284 : BitVec 32 := Scalar.muli v2 c16_i32_218
  let v285 : BitVec 32 := Scalar.addi c0_i32_219 v284
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v12 : BitVec 32 := Scalar.addi v5 c1_i32_5
  let c2_i32_6 : BitVec 32 := 2#32
  let c2_i32_2 : BitVec 32 := 2#32
  let v9 : BitVec 32 := Scalar.remsi v5 c2_i32_2
  let v13 : BitVec 32 := Scalar.muli c2_i32_6 v9
  let v14 : BitVec 32 := Scalar.subi v12 v13
  let c4_i32_220 : BitVec 32 := 4#32
  let v286 : BitVec 32 := Scalar.muli v14 c4_i32_220
  let v287 : BitVec 32 := Scalar.addi v285 v286
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_221 : BitVec 32 := 1#32
  let v288 : BitVec 32 := Scalar.muli v8 c1_i32_221
  let v289 : BitVec 32 := Scalar.addi v287 v288
  v289.toNat
def k0_dev18 (d0 : Dev nD) : Nat :=
  let c0_i32_246 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_245 : BitVec 32 := 16#32
  let v315 : BitVec 32 := Scalar.muli v2 c16_i32_245
  let v316 : BitVec 32 := Scalar.addi c0_i32_246 v315
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_247 : BitVec 32 := 4#32
  let v317 : BitVec 32 := Scalar.muli v5 c4_i32_247
  let v318 : BitVec 32 := Scalar.addi v316 v317
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v15 : BitVec 32 := Scalar.addi v8 c1_i32_7
  let c2_i32_8 : BitVec 32 := 2#32
  let c2_i32_3 : BitVec 32 := 2#32
  let v10 : BitVec 32 := Scalar.remsi v8 c2_i32_3
  let v16 : BitVec 32 := Scalar.muli c2_i32_8 v10
  let v17 : BitVec 32 := Scalar.subi v15 v16
  let c1_i32_248 : BitVec 32 := 1#32
  let v319 : BitVec 32 := Scalar.muli v17 c1_i32_248
  let v320 : BitVec 32 := Scalar.addi v318 v319
  v320.toNat
def k0_off3 (d0 : Dev nD) (c0_i32_250 : BitVec 32) : Fin 3 → Nat :=
  let c0_252 : Index := 0#32
  let c2_i32_25 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v40 : BitVec 32 := Scalar.muli c2_i32_25 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v41 : BitVec 32 := Scalar.addi v40 v10
  let c256_i32 : BitVec 32 := 256#32
  let v42 : BitVec 32 := Scalar.muli v41 c256_i32
  let v326 : BitVec 32 := Scalar.addi v42 c0_i32_250
  let v328 : Index := Scalar.indexCast v326
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_24 : BitVec 32 := 512#32
  let v39 : BitVec 32 := Scalar.muli v2 c512_i32_24
  let v329 : Index := Scalar.indexCast v39
  ![0, v328.toNat, v329.toNat]
def k0_off4 (d0 : Dev nD) (c0_i32_250 : BitVec 32) : Fin 2 → Nat :=
  let c2_i32_25 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v40 : BitVec 32 := Scalar.muli c2_i32_25 v9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v41 : BitVec 32 := Scalar.addi v40 v10
  let c256_i32 : BitVec 32 := 256#32
  let v42 : BitVec 32 := Scalar.muli v41 c256_i32
  let v326 : BitVec 32 := Scalar.addi v42 c0_i32_250
  let v333 : Index := Scalar.indexCast v326
  let c0_253 : Index := 0#32
  ![v333.toNat, 0]
def k0_off5 (d0 : Dev nD) : Fin 3 → Nat :=
  let c0_275 : Index := 0#32
  let c2_i32_33 : BitVec 32 := 2#32
  let c1_i32_32 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v51 : BitVec 32 := Scalar.subi c1_i32_32 v9
  let v52 : BitVec 32 := Scalar.muli c2_i32_33 v51
  let c1_i32_34 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v53 : BitVec 32 := Scalar.subi c1_i32_34 v10
  let v54 : BitVec 32 := Scalar.addi v52 v53
  let c256_i32_35 : BitVec 32 := 256#32
  let v55 : BitVec 32 := Scalar.muli v54 c256_i32_35
  let v373 : Index := Scalar.indexCast v55
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_24 : BitVec 32 := 512#32
  let v39 : BitVec 32 := Scalar.muli v2 c512_i32_24
  let v374 : Index := Scalar.indexCast v39
  ![0, v373.toNat, v374.toNat]
def k0_off6 (d0 : Dev nD) : Fin 2 → Nat :=
  let c2_i32_33 : BitVec 32 := 2#32
  let c1_i32_32 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v51 : BitVec 32 := Scalar.subi c1_i32_32 v9
  let v52 : BitVec 32 := Scalar.muli c2_i32_33 v51
  let c1_i32_34 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v53 : BitVec 32 := Scalar.subi c1_i32_34 v10
  let v54 : BitVec 32 := Scalar.addi v52 v53
  let c256_i32_35 : BitVec 32 := 256#32
  let v55 : BitVec 32 := Scalar.muli v54 c256_i32_35
  let v378 : Index := Scalar.indexCast v55
  let c0_276 : Index := 0#32
  ![v378.toNat, 0]
def k0_off7 (d0 : Dev nD) (c64_i32_277 : BitVec 32) : Fin 3 → Nat :=
  let c0_280 : Index := 0#32
  let c2_i32_29 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v47 : BitVec 32 := Scalar.muli c2_i32_29 v9
  let c1_i32_30 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v48 : BitVec 32 := Scalar.subi c1_i32_30 v10
  let v49 : BitVec 32 := Scalar.addi v47 v48
  let c256_i32_31 : BitVec 32 := 256#32
  let v50 : BitVec 32 := Scalar.muli v49 c256_i32_31
  let v380 : BitVec 32 := Scalar.addi v50 c64_i32_277
  let v382 : Index := Scalar.indexCast v380
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_24 : BitVec 32 := 512#32
  let v39 : BitVec 32 := Scalar.muli v2 c512_i32_24
  let v383 : Index := Scalar.indexCast v39
  ![0, v382.toNat, v383.toNat]
def k0_off8 (d0 : Dev nD) (c64_i32_277 : BitVec 32) : Fin 2 → Nat :=
  let c2_i32_29 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v47 : BitVec 32 := Scalar.muli c2_i32_29 v9
  let c1_i32_30 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v48 : BitVec 32 := Scalar.subi c1_i32_30 v10
  let v49 : BitVec 32 := Scalar.addi v47 v48
  let c256_i32_31 : BitVec 32 := 256#32
  let v50 : BitVec 32 := Scalar.muli v49 c256_i32_31
  let v380 : BitVec 32 := Scalar.addi v50 c64_i32_277
  let v387 : Index := Scalar.indexCast v380
  let c0_281 : Index := 0#32
  ![v387.toNat, 0]
def k0_off9 (d0 : Dev nD) (c128_i32_287 : BitVec 32) : Fin 3 → Nat :=
  let c0_290 : Index := 0#32
  let c2_i32_27 : BitVec 32 := 2#32
  let c1_i32_26 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v43 : BitVec 32 := Scalar.subi c1_i32_26 v9
  let v44 : BitVec 32 := Scalar.muli c2_i32_27 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v45 : BitVec 32 := Scalar.addi v44 v10
  let c256_i32_28 : BitVec 32 := 256#32
  let v46 : BitVec 32 := Scalar.muli v45 c256_i32_28
  let v398 : BitVec 32 := Scalar.addi v46 c128_i32_287
  let v400 : Index := Scalar.indexCast v398
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_24 : BitVec 32 := 512#32
  let v39 : BitVec 32 := Scalar.muli v2 c512_i32_24
  let v401 : Index := Scalar.indexCast v39
  ![0, v400.toNat, v401.toNat]
def k0_off10 (d0 : Dev nD) (c128_i32_287 : BitVec 32) : Fin 2 → Nat :=
  let c2_i32_27 : BitVec 32 := 2#32
  let c1_i32_26 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v43 : BitVec 32 := Scalar.subi c1_i32_26 v9
  let v44 : BitVec 32 := Scalar.muli c2_i32_27 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v45 : BitVec 32 := Scalar.addi v44 v10
  let c256_i32_28 : BitVec 32 := 256#32
  let v46 : BitVec 32 := Scalar.muli v45 c256_i32_28
  let v398 : BitVec 32 := Scalar.addi v46 c128_i32_287
  let v405 : Index := Scalar.indexCast v398
  let c0_291 : Index := 0#32
  ![v405.toNat, 0]
def k0_off11 (d0 : Dev nD) : Fin 3 → Nat :=
  let c0_368 : Index := 0#32
  let c2_i32_33 : BitVec 32 := 2#32
  let c1_i32_32 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v51 : BitVec 32 := Scalar.subi c1_i32_32 v9
  let v52 : BitVec 32 := Scalar.muli c2_i32_33 v51
  let c1_i32_34 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v53 : BitVec 32 := Scalar.subi c1_i32_34 v10
  let v54 : BitVec 32 := Scalar.addi v52 v53
  let c256_i32_35 : BitVec 32 := 256#32
  let v55 : BitVec 32 := Scalar.muli v54 c256_i32_35
  let c104_i32_365 : BitVec 32 := 104#32
  let v501 : BitVec 32 := Scalar.addi v55 c104_i32_365
  let v503 : Index := Scalar.indexCast v501
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_24 : BitVec 32 := 512#32
  let v39 : BitVec 32 := Scalar.muli v2 c512_i32_24
  let v504 : Index := Scalar.indexCast v39
  ![0, v503.toNat, v504.toNat]
def k0_off12 (d0 : Dev nD) : Fin 2 → Nat :=
  let c2_i32_33 : BitVec 32 := 2#32
  let c1_i32_32 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v51 : BitVec 32 := Scalar.subi c1_i32_32 v9
  let v52 : BitVec 32 := Scalar.muli c2_i32_33 v51
  let c1_i32_34 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v53 : BitVec 32 := Scalar.subi c1_i32_34 v10
  let v54 : BitVec 32 := Scalar.addi v52 v53
  let c256_i32_35 : BitVec 32 := 256#32
  let v55 : BitVec 32 := Scalar.muli v54 c256_i32_35
  let c104_i32_365 : BitVec 32 := 104#32
  let v501 : BitVec 32 := Scalar.addi v55 c104_i32_365
  let v508 : Index := Scalar.indexCast v501
  let c0_369 : Index := 0#32
  ![v508.toNat, 0]
def k0_off13 (d0 : Dev nD) : Fin 3 → Nat :=
  let c0_381 : Index := 0#32
  let c2_i32_33 : BitVec 32 := 2#32
  let c1_i32_32 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v51 : BitVec 32 := Scalar.subi c1_i32_32 v9
  let v52 : BitVec 32 := Scalar.muli c2_i32_33 v51
  let c1_i32_34 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v53 : BitVec 32 := Scalar.subi c1_i32_34 v10
  let v54 : BitVec 32 := Scalar.addi v52 v53
  let c256_i32_35 : BitVec 32 := 256#32
  let v55 : BitVec 32 := Scalar.muli v54 c256_i32_35
  let c176_i32_378 : BitVec 32 := 176#32
  let v519 : BitVec 32 := Scalar.addi v55 c176_i32_378
  let v521 : Index := Scalar.indexCast v519
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_24 : BitVec 32 := 512#32
  let v39 : BitVec 32 := Scalar.muli v2 c512_i32_24
  let v522 : Index := Scalar.indexCast v39
  ![0, v521.toNat, v522.toNat]
def k0_off14 (d0 : Dev nD) : Fin 2 → Nat :=
  let c2_i32_33 : BitVec 32 := 2#32
  let c1_i32_32 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let v9 : BitVec 32 := Scalar.remsi v5 c2_i32_2
  let v51 : BitVec 32 := Scalar.subi c1_i32_32 v9
  let v52 : BitVec 32 := Scalar.muli c2_i32_33 v51
  let c1_i32_34 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v53 : BitVec 32 := Scalar.subi c1_i32_34 v10
  let v54 : BitVec 32 := Scalar.addi v52 v53
  let c256_i32_35 : BitVec 32 := 256#32
  let v55 : BitVec 32 := Scalar.muli v54 c256_i32_35
  let c176_i32_378 : BitVec 32 := 176#32
  let v519 : BitVec 32 := Scalar.addi v55 c176_i32_378
  let v526 : Index := Scalar.indexCast v519
  let c0_382 : Index := 0#32
  ![v526.toNat, 0]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x1024x1024 : Shape := ⟨3, ![2, 1024, 1024]⟩
abbrev S_ : Shape := ⟨0, ![]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S_, .f32⟩
  | .hbm, ⟨2, _⟩ => ⟨S1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.IBase.lean ====
/-
# The ring of three neighbours: devices, cells, contents

A device of the mesh talks to three others: its `partner` across axis `x`, and its `ymate` and `zmate`, the devices
one step away along `y` and along `z` inside its block of four. Each of the three legs has five transfers, numbered
here by `T`. This module names the neighbours, the transfers with their semaphores and buffers, the element a
transferred buffer holds at every index, and the sets of elements the transfers move.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The neighbours -/

/-- The device with the other `x` coordinate. -/
def partner (c : Dev nD) : Dev nD := ⟨(c.val + 16) % 32, Nat.mod_lt _ (by decide)⟩
/-- The neighbour along `y` inside the block of four. -/
def ymate (c : Dev nD) : Dev nD := ⟨(c.val + 4) - 8 * (c.val / 4 % 2), by have h : c.val < 32 := c.isLt; show _ < 32; omega⟩
/-- The neighbour along `z` inside the block of four. -/
def zmate (c : Dev nD) : Dev nD := ⟨(c.val + 1) - 2 * (c.val % 2), by have h : c.val < 32 := c.isLt; show _ < 32; omega⟩

/-- The neighbour on leg `i`. -/
def nb : Fin 3 → Dev nD → Dev nD
  | 0 => partner
  | 1 => ymate
  | 2 => zmate

/-- Every leg runs both ways. -/
theorem nb_nb (i : Fin 3) (c : Dev nD) : nb i (nb i c) = c := by revert i c; decide +kernel

/-- Leg `i` as a permutation of the devices. -/
def nbE (i : Fin 3) : Dev nD ≃ Dev nD := ⟨nb i, nb i, nb_nb i, nb_nb i⟩

/-! ## The transfers -/

/-- The fifteen transfers a device makes: `a k`, `b k`, `d k` the four 64-row pieces to the partner, to the `y`
    neighbour, to the `z` neighbour, and `ag`, `bg`, `dg` the piece of the fourth quarter on each leg. -/
inductive T where
  | a (k : Fin 4) | ag | b (k : Fin 4) | bg | d (k : Fin 4) | dg
deriving DecidableEq

instance : Fintype T where
  elems := ⟨(([.a 0, .a 1, .a 2, .a 3, .ag, .b 0, .b 1, .b 2, .b 3, .bg, .d 0, .d 1, .d 2, .d 3, .dg] : List T) : Multiset T), by decide⟩
  complete t := by
    rcases t with k | _ | k | _ | k | _
    all_goals first | exact (by decide) | (revert k; decide)

/-- A statement about every transfer is six statements, three of them about the four pieces. -/
instance decidableForallT (P : T → Prop) [DecidablePred P] : Decidable (∀ t, P t) :=
  decidable_of_iff (((∀ k, P (.a k)) ∧ P .ag) ∧ ((∀ k, P (.b k)) ∧ P .bg) ∧ (∀ k, P (.d k)) ∧ P .dg)
    ⟨fun h t => match t with
      | .a k => h.1.1 k | .ag => h.1.2 | .b k => h.2.1.1 k | .bg => h.2.1.2 | .d k => h.2.2.1 k | .dg => h.2.2.2,
     fun h => ⟨⟨fun _ => h _, h _⟩, ⟨fun _ => h _, h _⟩, fun _ => h _, h _⟩⟩

/-- The leg of a transfer. -/
def leg : T → Fin 3
  | .a _ => 0 | .ag => 0 | .b _ => 1 | .bg => 1 | .d _ => 2 | .dg => 2

/-- Its number on the leg. -/
def num : T → ℕ
  | .a k => k.val | .ag => 4 | .b k => k.val | .bg => 4 | .d k => k.val | .dg => 4

/-- A leg has five transfers. -/
theorem num_lt (t : T) : num t < 5 := by revert t; decide +kernel
/-- There are three legs. -/
theorem leg_lt (t : T) : (leg t).val < 3 := (leg t).isLt

/-- The device transfer `t` of `c` goes to. -/
abbrev tgt (t : T) (c : Dev nD) : Dev nD := nb (leg t) c

/-- The semaphore a device's own transfer `t` raises on it, -/
def sendS (t : T) : DmaSem sig := ⟨2 + 10 * (leg t).val + num t, by have := num_lt t; have := leg_lt t; show _ < 32; omega⟩
/-- and the one it raises on the device it reaches. -/
def recvS (t : T) : DmaSem sig := ⟨7 + 10 * (leg t).val + num t, by have := num_lt t; have := leg_lt t; show _ < 32; omega⟩

/-- The transfer with number `n` on leg `l`. -/
def tOf : ℕ → ℕ → T
  | 0, 0 => .a 0 | 0, 1 => .a 1 | 0, 2 => .a 2 | 0, 3 => .a 3 | 0, _ => .ag
  | 1, 0 => .b 0 | 1, 1 => .b 1 | 1, 2 => .b 2 | 1, 3 => .b 3 | 1, _ => .bg
  | _, 0 => .d 0 | _, 1 => .d 1 | _, 2 => .d 2 | _, 3 => .d 3 | _, _ => .dg

/-- What a DMA semaphore is for: nothing here (the pipeline's two), or the sending (`false`) or the receiving (`true`)
    end of a transfer. -/
def slotOf (q : DmaSem sig) : Option (Bool × T) :=
  if q.val < 2 then none
  else some (decide ((q.val - 2) / 5 % 2 = 1), tOf ((q.val - 2) / 10) ((q.val - 2) % 5))

/-- A transfer's sending semaphore is for its sending end, -/
theorem slotOf_send (t : T) : slotOf (sendS t) = some (false, t) := by revert t; decide +kernel
/-- and its receiving semaphore for its receiving end. -/
theorem slotOf_recv (t : T) : slotOf (recvS t) = some (true, t) := by revert t; decide +kernel

/-- The barrier semaphore. -/
abbrev barS : Sem sig := (SemArray.scalar (sig.barrier 0 rfl) : Sems sig S_).sem

/-- A device's cells: the barrier's, and both ends of every transfer. -/
abbrev Ck : Type := Option (Bool × T)
def csem : Ck → SemLoc sig
  | none => .reg barS
  | some (false, t) => .dma (sendS t)
  | some (true, t) => .dma (recvS t)
abbrev kcell (ck : Dev nD × Ck) : GSem nD τ sig := ((ck.1 : Thread nD τ), csem ck.2)

abbrev barCell (c : Dev nD) : GSem nD τ sig := ((c : Thread nD τ), .reg barS)
abbrev sendCell (t : T) (c : Dev nD) : GSem nD τ sig := ((c : Thread nD τ), .dma (sendS t))
abbrev recvCell (t : T) (c : Dev nD) : GSem nD τ sig := ((c : Thread nD τ), .dma (recvS t))

/-- Different cells of a device have different semaphores, -/
theorem csem_injective : Function.Injective csem := by
  intro x y h
  rcases x with _ | ⟨_ | _, t⟩ <;> rcases y with _ | ⟨_ | _, t'⟩ <;> simp only [csem, SemLoc.dma.injEq, reduceCtorEq] at h
  · rfl
  all_goals
    have h' := congrArg slotOf h
    simp only [slotOf_send, slotOf_recv, Option.some.injEq, Prod.mk.injEq, reduceCtorEq, false_and, true_and] at h'
  all_goals rw [h']

/-- so different cells are different counters of the machine. -/
theorem kcell_injective : Function.Injective (kcell : Dev nD × Ck → GSem nD τ sig) := by
  rintro ⟨c, k⟩ ⟨c', k'⟩ h
  have h1 : c = c' := congrArg (fun g : GSem nD τ sig => g.1.1) h
  subst h1
  have h2 : k = k' := csem_injective (congrArg Prod.snd h : csem k = csem k')
  subst h2
  rfl

/-! ## Buffers and rectangles -/

abbrev xM : Memref sig .tc .vmem S1x1024x1024 .f32 := Memref.whole cc0_stg0_0
abbrev oM : Memref sig .tc .vmem S1024x512 .f32 := Memref.whole cc0_stg1_0
abbrev xoM : Memref sig .tc .vmem S256x512 .f32 := Memref.whole cc0_scratch0
abbrev xgM : Memref sig .tc .vmem S104x512 .f32 := Memref.whole cc0_scratch1
abbrev yoM : Memref sig .tc .vmem S256x512 .f32 := Memref.whole cc0_scratch2
abbrev ygM : Memref sig .tc .vmem S72x512 .f32 := Memref.whole cc0_scratch3
abbrev zoM : Memref sig .tc .vmem S256x512 .f32 := Memref.whole cc0_scratch4
abbrev zgM : Memref sig .tc .vmem S80x512 .f32 := Memref.whole cc0_scratch5

/-- The four pieces lie inside a 256-row buffer. -/
theorem blk_inb (k : Fin 4) : ∀ a, (![64 * k.val, 0] : Fin 2 → ℕ) a + S64x512.size a ≤ S256x512.size a := by revert k; decide
/-- The `k`-th 64 rows of a 256-row buffer; -/
abbrev blkR (k : Fin 4) : Rect S256x512 := Rect.unit (s := S256x512) ![64 * k.val, 0] S64x512.size (blk_inb k)
/-- the 72 rows `bg` sends, the 80 rows `dg` sends; -/
abbrev bgR : Rect S256x512 := Rect.unit (s := S256x512) ![104, 0] S72x512.size inb_S256x512_S72x512_104_0
abbrev dgR : Rect S256x512 := Rect.unit (s := S256x512) ![176, 0] S80x512.size inb_S256x512_S80x512_176_0
/-- the rows and columns of the argument that `a k` and `ag` send. -/
abbrev xaR (c : Dev nD) (k : Fin 4) : Rect S1x1024x1024 :=
  Rect.unit (s := S1x1024x1024) (k0_off1 c (BitVec.ofNat 32 (64 * k.val))) S1x64x512.size (k0_off1_inb c k)
abbrev xgR (c : Dev nD) : Rect S1x1024x1024 :=
  Rect.unit (s := S1x1024x1024) (k0_off2 c) S1x104x512.size (k0_off2_inb c)

/-- The shape a transfer moves, -/
abbrev shp : T → Shape
  | .a _ => S64x512 | .ag => S104x512 | .b _ => S64x512 | .bg => S72x512 | .d _ => S64x512 | .dg => S80x512

/-- where it comes from on device `c`, -/
abbrev srcM : (t : T) → (c : Dev nD) → Memref sig .tc .vmem (shp t) .f32
  | .a k, c => (xM.slice (xaR c k) (fun _ => rfl)).squeeze S64x512 squeezes_S1x64x512_S64x512
  | .ag, c => (xM.slice (xgR c) (fun _ => rfl)).squeeze S104x512 squeezes_S1x104x512_S104x512
  | .b k, _ => xoM.slice (blkR k) (fun _ => rfl)
  | .bg, _ => zoM.slice bgR (fun _ => rfl)
  | .d k, _ => xoM.slice (blkR k) (fun _ => rfl)
  | .dg, _ => yoM.slice dgR (fun _ => rfl)

/-- and where it lands. -/
abbrev dstM : (t : T) → Memref sig .tc .vmem (shp t) .f32
  | .a k => xoM.slice (blkR k) (fun _ => rfl)
  | .ag => xgM
  | .b k => yoM.slice (blkR k) (fun _ => rfl)
  | .bg => ygM
  | .d k => zoM.slice (blkR k) (fun _ => rfl)
  | .dg => zgM

/-- A transfer's credit. -/
def N (t : T) : ℕ := (dstM t).view.dmaCredit
/-- Every transfer moves something. -/
theorem N_pos (t : T) : 0 < N t := View.dmaCredit_pos _ (by revert t; decide +kernel)

/-! ## Contents -/

/-- The first row of a device's own quarter, and of the quarter of the fourth device of its block. -/
abbrev rowMe (c : Dev nD) : ℕ := 512 * (((c.val / 4) % 4) % 2) + 256 * ((c.val % 4) % 2)
abbrev rowG (c : Dev nD) : ℕ := 768 - rowMe c
/-- The first column of a device's half. -/
abbrev col (c : Dev nD) : ℕ := 512 * (c.val / 16)

/-- The index of the argument block at row `r`, column `q`, -/
def xix (r q : ℕ) : S1x1024x1024.Idx
  | ⟨0, _⟩ => ⟨0, Nat.one_pos⟩
  | ⟨1, _⟩ => ⟨r % 1024, Nat.mod_lt _ (by decide)⟩
  | ⟨2, _⟩ => ⟨q % 1024, Nat.mod_lt _ (by decide)⟩
/-- and of a 256-row buffer. -/
def bix (r q : ℕ) : S256x512.Idx
  | ⟨0, _⟩ => ⟨r % 256, Nat.mod_lt _ (by decide)⟩
  | ⟨1, _⟩ => ⟨q % 512, Nat.mod_lt _ (by decide)⟩

/-- An index of the argument's block is the one at its row and column, -/
theorem eq_xix (i : S1x1024x1024.Idx) {r q : ℕ} (hr : (i 1 : ℕ) = r) (hq : (i 2 : ℕ) = q) : i = xix r q := by
  have h0 : (i 0).val < 1 := (i 0).isLt
  have h1 : (i 1).val < 1024 := (i 1).isLt
  have h2 : (i 2).val < 1024 := (i 2).isLt
  funext a
  fin_cases a
  · exact Fin.ext (show (i 0).val = 0 by omega)
  · exact Fin.ext (show (i 1).val = r % 1024 by omega)
  · exact Fin.ext (show (i 2).val = q % 1024 by omega)

/-- and so is an index of a 256-row buffer. -/
theorem eq_bix (i : S256x512.Idx) {r q : ℕ} (hr : (i 0 : ℕ) = r) (hq : (i 1 : ℕ) = q) : i = bix r q := by
  have h1 : (i 0).val < 256 := (i 0).isLt
  have h2 : (i 1).val < 512 := (i 1).isLt
  funext a
  fin_cases a
  · exact Fin.ext (show (i 0).val = r % 256 by omega)
  · exact Fin.ext (show (i 1).val = q % 512 by omega)

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-- A device's block of the argument, as staged. -/
def X (c : Dev nD) : (cc0_stg0_0 : Ref sig .tc).ty.Contents (Elt F) :=
  (win0_0.blk (0 : Fin 1)).view.read (Elt F) (m ((c : Thread nD τ).loc main_arg0))

/-- What the partner sends into the first scratch: its rows of this device's quarter at this device's half; -/
def xoC (c : Dev nD) : (cc0_scratch0 : Ref sig .tc).ty.Contents (Elt F) :=
  fun i => X m (partner c) (xix (rowMe c + (i 0 : ℕ)) (col c + (i 1 : ℕ)))
/-- into the second: rows of the fourth device's quarter; -/
def xgC (c : Dev nD) : (cc0_scratch1 : Ref sig .tc).ty.Contents (Elt F) :=
  fun i => X m (partner c) (xix (rowG c + (i 0 : ℕ)) (col c + (i 1 : ℕ)))
/-- what the `y` neighbour and the `z` neighbour pass on of what they received from their partners; -/
def yoC (c : Dev nD) : (cc0_scratch2 : Ref sig .tc).ty.Contents (Elt F) := fun i => xoC m (ymate c) (bix (i 0 : ℕ) (i 1 : ℕ))
def zoC (c : Dev nD) : (cc0_scratch4 : Ref sig .tc).ty.Contents (Elt F) := fun i => xoC m (zmate c) (bix (i 0 : ℕ) (i 1 : ℕ))
/-- and what those pass on of what they had been passed. -/
def ygC (c : Dev nD) : (cc0_scratch3 : Ref sig .tc).ty.Contents (Elt F) := fun i => zoC m (ymate c) (bix ((i 0 : ℕ) + 104) (i 1 : ℕ))
def zgC (c : Dev nD) : (cc0_scratch5 : Ref sig .tc).ty.Contents (Elt F) := fun i => yoC m (zmate c) (bix ((i 0 : ℕ) + 176) (i 1 : ℕ))

/-- The contents a transfer reads on `c`, -/
abbrev srcC : (t : T) → (c : Dev nD) → Buf (Elt F) ((srcM t c).view.loc (c : Thread nD τ))
  | .a _, c => X m c | .ag, c => X m c | .b _, c => xoC m c | .bg, c => zoC m c | .d _, c => xoC m c | .dg, c => yoC m c
/-- and the contents it leaves on `c`. -/
abbrev dstC : (t : T) → (c : Dev nD) → Buf (Elt F) ((dstM t).view.loc (c : Thread nD τ))
  | .a _, c => xoC m c | .ag, c => xgC m c | .b _, c => yoC m c | .bg, c => ygC m c | .d _, c => zoC m c | .dg, c => zgC m c

end Cert.KernelIdealProof

end
-- ==== Proof.ISched.lean ====
/-
# The schedule of the cells

Every cell runs one round. A barrier cell has three duties of one unit, one per neighbour; a neighbour's unit hands over
the five landing slots its leg's transfers fill on it. The sending end of a transfer has one duty of the transfer's
credit, handing back what the transfer read; the receiving end one, handing over the slot with what was sent.
-/
module

public import proofs.«01_k».proof.Proof.IBase
public import Idealize.ShloMosaic.Lib.Transfers

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop shareTok)
open Idealize.ShloMosaic.Pipeline (Dat Cfg Window BodyObligation cellOf)

variable {F : FTy → Type} [FloatOps F]

/-! ## The resource algebra: the pipeline's copy and the cells' -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## What a cell's duties hand over -/

/-- The share a transfer reads its source at. -/
def qS : T → PosShare TreeShare
  | .a k => shareTokN fullShare k.val | .ag => shareTokN fullShare 4
  | .b _ => fullShare.left.left | .d _ => fullShare.left.right
  | .bg => fullShare.left | .dg => fullShare.left

/-- What a transfer reads, held while it runs and handed back when it is done; -/
def srcPts (t : T) (c : Dev nD) : sProp 𝕄 :=
  (srcM t c).view.loc (c : Thread nD τ) ↦[(srcM t c).view.set]{qS t} srcC m t c
/-- its landing slot, holding `f`; -/
def slotPts (t : T) (c : Dev nD) (f : Buf (Elt F) ((dstM t).view.loc (c : Thread nD τ))) : sProp 𝕄 :=
  (dstM t).view.loc (c : Thread nD τ) ↦[(dstM t).view.set]{fullShare} f
/-- the slot with any contents. -/
def slotAny (t : T) (c : Dev nD) : sProp 𝕄 := iprop(∃ f, slotPts (F := F) t c f)
/-- The five slots of a leg on the neighbour along it. -/
def barPay (i : Fin 3) (c : Dev nD) : sProp 𝕄 :=
  bigSep Finset.univ fun n : Fin 5 => slotAny (F := F) (tOf i.val n.val) (nb i c)

instance srcPts_storable (t : T) (c : Dev nD) : BI.Storable (upEmb : UEmb _ 𝕄) (srcPts m t c) := by unfold srcPts; infer_instance
instance slotPts_storable (t : T) (c : Dev nD) (f) : BI.Storable (upEmb : UEmb _ 𝕄) (slotPts (F := F) t c f) := by unfold slotPts; infer_instance
instance barPay_storable (i : Fin 3) (c : Dev nD) : BI.Storable (upEmb : UEmb _ 𝕄) (barPay (F := F) i c) := by
  unfold barPay slotAny; infer_instance

/-- What a DMA semaphore's duty hands over. -/
def dmaPay (c : Dev nD) : Option (Bool × T) → sProp 𝕄
  | none => iprop(emp)
  | some (false, t) => srcPts m t c
  | some (true, t) => slotPts t c (dstC m t c)

instance dmaPay_storable (c : Dev nD) (o) : BI.Storable (upEmb : UEmb _ 𝕄) (dmaPay m c o) := by
  rcases o with _ | ⟨_ | _, t⟩ <;> unfold dmaPay <;> infer_instance

/-- The credit of a DMA semaphore's transfer. -/
def dmaAmt : Option (Bool × T) → ℕ
  | none => 1
  | some (_, t) => N t

/-- A DMA semaphore's duty has an amount. -/
theorem dmaAmt_pos (o : Option (Bool × T)) : 0 < dmaAmt o := by
  rcases o with _ | ⟨_, t⟩
  · exact Nat.one_pos
  · exact N_pos t

/-- The schedule. -/
def Rd : Rounds.Schedule (GSem nD τ sig) (Fin 3) 𝕄 where
  duties g r := if r = 0 ∧ g.1.2 = .tc then
      match g.2 with
      | .reg _ => Finset.univ
      | .dma q => if (slotOf q).isSome then {0} else ∅
    else ∅
  unitless _ := False
  amount g _ _ := match g.2 with
    | .reg _ => 1
    | .dma q => dmaAmt (slotOf q)
  payload g _ d := match g.2 with
    | .reg _ => barPay d g.1.1
    | .dma q => dmaPay m g.1.1 (slotOf q)
  amount_pos g _ _ _ := by
    split
    · exact Nat.one_pos
    · exact dmaAmt_pos _

instance Rd_payload_storable (g : GSem nD τ sig) (r : ℕ) (d : Fin 3) : BI.Storable (upEmb : UEmb _ 𝕄) ((Rd m).payload g r d) := by
  dsimp only [Rd]
  split <;> infer_instance

section Sched
variable (c : Dev nD) (t : T)

/-- In the only round a barrier has a duty for each leg, -/
theorem duties_bar : (Rd m).duties (barCell c) 0 = Finset.univ := by dsimp only [Rd]; exact if_pos ⟨rfl, rfl⟩
/-- a transfer's sending end has one, -/
theorem duties_send : (Rd m).duties (sendCell t c) 0 = {0} := by
  dsimp only [Rd]; rw [if_pos ⟨rfl, rfl⟩, slotOf_send]; rfl
/-- and so has its receiving end. -/
theorem duties_recv : (Rd m).duties (recvCell t c) 0 = {0} := by
  dsimp only [Rd]; rw [if_pos ⟨rfl, rfl⟩, slotOf_recv]; rfl
/-- There is no second round. -/
theorem duties_later (g : GSem nD τ sig) : ∀ r, 1 ≤ r → (Rd m).duties g r = ∅ :=
  fun r hr => by dsimp only [Rd]; exact if_neg fun h => by omega

/-- A barrier's duty is one unit, -/
theorem amount_bar (d : Fin 3) : (Rd m).amount (barCell c) 0 d = 1 := rfl
/-- a sending end's is the transfer's credit, -/
theorem amount_send (d : Fin 3) : (Rd m).amount (sendCell t c) 0 d = N t := by dsimp only [Rd]; rw [slotOf_send]; rfl
/-- and so is a receiving end's. -/
theorem amount_recv (d : Fin 3) : (Rd m).amount (recvCell t c) 0 d = N t := by dsimp only [Rd]; rw [slotOf_recv]; rfl

/-- So a barrier expects three units, -/
theorem expect_bar : (Rd m).expect (barCell c) 0 = 3 := by
  unfold Schedule.expect Schedule.amountOf
  rw [duties_bar, Finset.sum_congr rfl fun d _ => amount_bar m c d]; rfl
/-- a sending end the transfer's credit, -/
theorem expect_send : (Rd m).expect (sendCell t c) 0 = N t := by
  unfold Schedule.expect Schedule.amountOf; rw [duties_send, Finset.sum_singleton, amount_send]
/-- and so does a receiving end. -/
theorem expect_recv : (Rd m).expect (recvCell t c) 0 = N t := by
  unfold Schedule.expect Schedule.amountOf; rw [duties_recv, Finset.sum_singleton, amount_recv]

/-- A barrier's duty for a leg hands over the leg's slots on the neighbour, -/
theorem payload_bar (d : Fin 3) : (Rd m).payload (barCell c) 0 d = barPay d c := rfl
/-- a sending end's what the transfer read, -/
theorem payload_send (d : Fin 3) : (Rd m).payload (sendCell t c) 0 d = srcPts m t c := by dsimp only [Rd]; rw [slotOf_send]; rfl
/-- and a receiving end's the slot with what was sent. -/
theorem payload_recv (d : Fin 3) : (Rd m).payload (recvCell t c) 0 d = slotPts t c (dstC m t c) := by dsimp only [Rd]; rw [slotOf_recv]; rfl

/-- All a barrier cell hands over: the slots of the three legs. -/
theorem rest_bar : bigSep ((Rd m).duties (barCell c) 0 \ ∅) (fun d => (Rd m).payload (barCell c) 0 d)
    = iprop(barPay (F := F) 0 c ∗ barPay (F := F) 1 c ∗ barPay (F := F) 2 c) := by
  rw [Finset.sdiff_empty, duties_bar, bigSep_univ_eq_bigSepL [0, 1, 2] (by decide) (by decide), bigSepL_cons_cons, bigSepL_cons_cons,
    bigSepL_singleton, payload_bar, payload_bar, payload_bar]
  rfl
/-- All the sending end hands over: what the transfer read. -/
theorem rest_send : bigSep ((Rd m).duties (sendCell t c) 0 \ ∅) (fun d => (Rd m).payload (sendCell t c) 0 d) = srcPts m t c := by
  rw [Finset.sdiff_empty, duties_send, bigSep_singleton, payload_send]
/-- All the receiving end hands over: the slot with what was sent. -/
theorem rest_recv : bigSep ((Rd m).duties (recvCell t c) 0 \ ∅) (fun d => (Rd m).payload (recvCell t c) 0 d) = slotPts t c (dstC m t c) := by
  rw [Finset.sdiff_empty, duties_recv, bigSep_singleton, payload_recv]

end Sched

/-! ## What a device owes, in the order it pays -/

/-- What a device pays: a unit to the barrier of the neighbour on leg `i`, or a transfer's credit. -/
abbrev It : Type := Fin 3 ⊕ T
def oCell (c : Dev nD) : It → GSem nD τ sig
  | .inl i => barCell (nb i c)
  | .inr t => recvCell t (tgt t c)
def oAmt : It → ℕ
  | .inl _ => 1
  | .inr t => N t
/-- What is owed while the payments of the list are outstanding, the first to be paid at the head. -/
def OL (c : Dev nD) : List It → CellTallies nD τ sig Unit
  | [] => 0
  | x :: l => OL c l + tallyAt (oCell c x) () (oAmt x)

/-- The payments in program order. -/
def allIt : List It :=
  [.inl 0, .inl 1, .inl 2, .inr (.a 2), .inr (.a 1), .inr (.a 3), .inr (.a 0), .inr .ag, .inr (.b 2), .inr (.d 2), .inr (.b 1), .inr (.d 1),
    .inr (.b 3), .inr (.d 3), .inr (.b 0), .inr (.d 0), .inr .bg, .inr .dg]

/-! ## Levels -/

/-- A transfer's level: the first legs, what they let through, and what that lets through. -/
def lvT : T → ℕ
  | .a _ => 2 | .ag => 2 | .b _ => 3 | .d _ => 3 | .bg => 4 | .dg => 4
def lvS : SemLoc sig → ℕ
  | .reg _ => 1
  | .dma q => match slotOf q with
    | some (true, t) => lvT t
    | _ => 0
def lvI : It → ℕ
  | .inl _ => 1
  | .inr t => lvT t

def L (g : GSem nD τ sig) : Finset Unit := if g.1.2 = .tc then {()} else ∅
def lv (g : GSem nD τ sig) (_ : Unit) : ℕ := lvS g.2

/-- Only the TensorCores' semaphores are given a level, -/
theorem L_of_ne (g : GSem nD τ sig) (h : g.1.2 ≠ .tc) : L g = ∅ := if_neg h
/-- and each of them is. -/
theorem L_tc (c : Dev nD) (sm : SemLoc sig) : L ((c : Thread nD τ), sm) = {()} := if_pos rfl

/-- A sending semaphore is at the lowest level, -/
theorem lvS_send (t : T) : lvS (.dma (sendS t)) = 0 := by dsimp only [lvS]; rw [slotOf_send]
/-- a receiving one at its transfer's. -/
theorem lvS_recv (t : T) : lvS (.dma (recvS t)) = lvT t := by dsimp only [lvS]; rw [slotOf_recv]

/-- The cell a payment goes to is at the payment's level. -/
theorem oCell_lv (c : Dev nD) (x : It) : lv (oCell c x) () = lvI x ∧ () ∈ L (oCell c x) := by
  rcases x with i | t
  · exact ⟨rfl, by rw [oCell, L_tc]; exact Finset.mem_singleton_self _⟩
  · exact ⟨lvS_recv t, by rw [oCell, L_tc]; exact Finset.mem_singleton_self _⟩

/-- Only a payment outstanding is owed. -/
theorem OL_pos {c : Dev nD} {g : GSem nD τ sig} {u : Unit} : ∀ {l : List It}, 0 < OL c l g u → ∃ x ∈ l, g = oCell c x
  | [], h => absurd h (Nat.lt_irrefl 0)
  | x :: l, h => by
    rw [OL, Pi.add_apply, Finsupp.add_apply, tallyAt_apply] at h
    by_cases hg : g = oCell c x
    · exact ⟨x, List.mem_cons_self, hg⟩
    · rw [if_neg fun h' => hg h'.1, Nat.add_zero] at h
      obtain ⟨y, hy, e⟩ := OL_pos h
      exact ⟨y, List.mem_cons_of_mem _ hy, e⟩

/-- A device may wait at a cell below the levels of all it still owes. -/
theorem mayWait_OL (c : Dev nD) (sm : SemLoc sig) (l : List It) (h : ∀ x ∈ l, lvS sm < lvI x) :
    (levAts L lv : sProp 𝕄) ⊢ MayWait (c : Thread nD τ) sm () (OL c l) :=
  MayOwe.of_cut (L := L) (lev := lv) (lvS sm)
    (fun p hp => by rw [Finset.mem_singleton.mp hp, L_tc]; exact Finset.mem_singleton_self _)
    (fun g u hg => by obtain ⟨x, _, rfl⟩ := OL_pos hg; exact (oCell_lv c x).2)
    (fun p hp => by rw [Finset.mem_singleton.mp hp]; exact Nat.le_refl _)
    (fun g u hg => by obtain ⟨x, hx, rfl⟩ := OL_pos hg; rw [show lv (oCell c x) u = lvI x from (oCell_lv c x).1]; exact h x hx)

/-! ## What all the devices owe a cell -/

/-- What all the devices owe a cell, summed payment by payment. -/
theorem sum_OL (g : GSem nD τ sig) : ∀ l : List It,
    (∑ d, OL d l g ()) = (l.map fun x => ∑ d, if g = oCell d x then oAmt x else 0).sum
  | [] => Finset.sum_eq_zero fun _ _ => rfl
  | x :: l => by
    rw [List.map_cons, List.sum_cons, ← sum_OL g l, Nat.add_comm, ← Finset.sum_add_distrib]
    refine Finset.sum_congr rfl fun d _ => ?_
    rw [OL, Pi.add_apply, Finsupp.add_apply, tallyAt_apply]
    simp only [and_true]

/-- A sum over a list of what is `n` at the members with a property and 0 at the others: `n` for each such member. -/
theorem sum_pick (l : List It) (f : It → ℕ) (p : It → Prop) [DecidablePred p] (n : ℕ) (h : ∀ x ∈ l, f x = if p x then n else 0) :
    (l.map f).sum = l.countP (fun x => decide (p x)) * n := by
  induction l with
  | nil => rw [List.countP_nil, Nat.zero_mul]; rfl
  | cons x l ih =>
    rw [List.map_cons, List.sum_cons, ih fun y hy => h y (List.mem_cons_of_mem _ hy), h x List.mem_cons_self, List.countP_cons]
    by_cases hp : p x
    · simp only [hp, if_true, decide_true]; rw [Nat.add_mul, Nat.one_mul, Nat.add_comm]
    · simp only [hp, if_false, decide_false, Bool.false_eq_true, Nat.zero_add, Nat.add_zero]

/-- Just one device pays a leg's neighbour. -/
theorem sum_nb (i : Fin 3) (c : Dev nD) (n : ℕ) : (∑ d, if c = nb i d then n else 0) = n := by
  rw [Finset.sum_congr rfl fun d _ => if_congr (show c = nb i d ↔ nb i c = d from
    ⟨fun h => by rw [h, nb_nb], fun h => by rw [← h, nb_nb]⟩) rfl rfl, Finset.sum_ite_eq, if_pos (Finset.mem_univ _)]

/-- The receiving cells of two transfers on two devices are the same only if both are, -/
theorem recvCell_eq {t t' : T} {c c' : Dev nD} : recvCell t c = recvCell t' c' ↔ t' = t ∧ c = c' := by
  constructor
  · intro h
    have h' := kcell_injective (show kcell (c, some (true, t)) = kcell (c', some (true, t')) from h)
    simp only [Prod.mk.injEq, Option.some.injEq, true_and] at h'
    exact ⟨h'.2.symm, h'.1⟩
  · rintro ⟨rfl, rfl⟩; rfl
/-- no barrier is a receiving cell, -/
theorem barCell_ne (t : T) (c c' : Dev nD) : barCell c ≠ recvCell t c' := fun h => by
  have h' := kcell_injective (show kcell (c, none) = kcell (c', some (true, t)) from h)
  simp only [Prod.mk.injEq, reduceCtorEq, and_false] at h'
/-- and the barriers of two devices are the same only if the devices are. -/
theorem barCell_eq {c c' : Dev nD} : barCell c = barCell c' ↔ c = c' :=
  ⟨fun h => congrArg (fun g : GSem nD τ sig => g.1.1) h, fun h => by rw [h]⟩

/-- The receiving end of a transfer is owed its credit once, -/
theorem owed_recv (t : T) (c : Dev nD) : (∑ d, OL d allIt (recvCell t c) ()) = N t := by
  rw [sum_OL, sum_pick allIt _ (fun x => x = .inr t) (N t)]
  · rw [show allIt.countP (fun x => decide (x = Sum.inr t)) = 1 by revert t; decide +kernel, Nat.one_mul]
  · rintro (i | t') -
    · rw [if_neg (by simp only [reduceCtorEq, not_false_eq_true])]
      exact Finset.sum_eq_zero fun d _ => if_neg fun h => barCell_ne t _ _ h.symm
    · by_cases ht : t' = t
      · subst ht
        rw [if_pos rfl, Finset.sum_congr rfl fun d _ => if_congr (show recvCell t' c = oCell d (.inr t') ↔ c = nb (leg t') d from
          recvCell_eq.trans (and_iff_right rfl)) rfl rfl]
        exact sum_nb _ c _
      · rw [if_neg fun h => ht (Sum.inr.inj h)]
        exact Finset.sum_eq_zero fun d _ => if_neg fun h => ht (recvCell_eq.mp h).1

/-- and the barrier of a device three units. -/
theorem owed_bar (c : Dev nD) : (∑ d, OL d allIt (barCell c) ()) = 3 := by
  rw [sum_OL, sum_pick allIt _ (fun x => x.isLeft = true) 1]
  · rfl
  · rintro (i | t') -
    · rw [if_pos (show (Sum.inl i : It).isLeft = true from rfl), Finset.sum_congr rfl fun d _ => if_congr (show barCell c = oCell d (.inl i) ↔ c = nb i d from barCell_eq) rfl rfl]
      exact sum_nb _ c _
    · rw [if_neg (show ¬(Sum.inr t' : It).isLeft = true from Bool.false_ne_true)]
      exact Finset.sum_eq_zero fun d _ => if_neg fun h => barCell_ne t' _ _ h

end Cert.KernelIdealProof

end
-- ==== Proof.IValue.lean ====
/-
# What is sent is what lands, and what is added

The contents named for the buffers agree along every transfer, and a row of the result is the sum of a device's own row
and the row another device holds of the same matrix row: its partner's, or the partner of one of its neighbours.
-/
module

public import proofs.«01_k».proof.Proof.IBase
public import Idealize.ShloMosaic.Lib.Pipeline.ValueKit.Geometry

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop shareTok)
open Idealize.ShloMosaic.Pipeline (Dat Cfg Window BodyObligation cellOf)

variable {F : FTy → Type} [FloatOps F]
variable (m : (ℓ : Loc nD τ sig) → Buf (Elt F) ℓ)

/-! ## Reading through a rectangle -/

/-- A band of `n` rows and 512 columns of the argument, its unit axis dropped, reads the argument there. -/
theorem read_x {n : ℕ} (off : Fin 3 → ℕ) (inb) (hc) {lo q : ℕ} (h : off = ![0, lo, q])
    (f : (cc0_stg0_0 : Ref sig .tc).ty.Contents (Elt F)) (j : (⟨2, ![n, 512]⟩ : Shape).Idx) :
    shapeCast ⟨2, ![n, 512]⟩ (xM.view.readAt (Elt F) (Rect.unit (s := S1x1024x1024) off (⟨3, ![1, n, 512]⟩ : Shape).size inb).toLoadRect f) hc j
      = f (xix (lo + (j 0 : ℕ)) (q + (j 1 : ℕ))) := by
  refine (shapeCast_dropUnit_apply ![n, 512] _ hc j).trans ?_
  refine congrArg f (eq_xix _ ?_ ?_)
  · refine (ValueKit.rect_emb_unit_val (s := S1x1024x1024) off (⟨3, ![1, n, 512]⟩ : Shape).size inb _ 1).trans ?_
    exact congrArg (· + (j 0 : ℕ)) (congrFun h 1)
  · refine (ValueKit.rect_emb_unit_val (s := S1x1024x1024) off (⟨3, ![1, n, 512]⟩ : Shape).size inb _ 2).trans ?_
    exact congrArg (· + (j 1 : ℕ)) (congrFun h 2)

/-- A band of rows of a 256-row buffer sits at its rows. -/
theorem emb_b {n : ℕ} (o : ℕ) (inb) (j : (⟨2, ![n, 512]⟩ : Shape).Idx) :
    (Rect.unit (s := S256x512) ![o, 0] (⟨2, ![n, 512]⟩ : Shape).size inb).emb j = bix (o + (j 0 : ℕ)) (j 1 : ℕ) :=
  eq_bix _ (ValueKit.rect_emb_unit_val _ _ inb j 0) ((ValueKit.rect_emb_unit_val _ _ inb j 1).trans (Nat.zero_add _))

/-! ## The devices' rows and columns -/

/-- The partner's columns are the other half, -/
theorem col_partner (c : Dev nD) : col (partner c) = 512 - col c := by revert c; decide +kernel
/-- and a half begins at column 0 or 512. -/
theorem col_le (c : Dev nD) : col c ≤ 512 := by revert c; decide +kernel
/-- The partner has the same quarter, -/
theorem row_partner (c : Dev nD) : rowMe (partner c) = rowMe c := by revert c; decide +kernel
/-- the `y` neighbour the quarter two away, -/
theorem row_ymate (c : Dev nD) : rowMe (ymate c) = 512 + 256 * ((c.val % 4) % 2) - 512 * (((c.val / 4) % 4) % 2) := by revert c; decide +kernel
/-- the `z` neighbour the quarter beside it, -/
theorem row_zmate (c : Dev nD) : rowMe (zmate c) = 512 * (((c.val / 4) % 4) % 2) + 256 - 256 * ((c.val % 4) % 2) := by revert c; decide +kernel
/-- and the fourth device of the block the quarter left over. -/
theorem row_far (c : Dev nD) : rowMe (zmate (ymate c)) = rowG c ∧ rowMe (ymate (zmate c)) = rowG c := by revert c; decide +kernel
/-- The neighbours inside the block have the same columns. -/
theorem col_mates (c : Dev nD) : col (ymate c) = col c ∧ col (zmate c) = col c := by revert c; decide +kernel

/-! ## A transfer lands what its source reads -/

/-- Writing through a view what it reads of `g` leaves `g` on the view's elements. -/
theorem write_read_eq {κ : Kind} {sp : Space} {s : Shape} {e : EltTy} (v : View sig κ sp s e) (f g : v.ty.Contents (Elt F))
    (w : s.Idx → Elt F e) (h : w = v.read (Elt F) g) : ∀ i ∈ v.set, v.write (Elt F) f w Finset.univ i = g i := by
  intro i hi
  obtain ⟨x, rfl⟩ := View.exists_emb_of_mem_set v hi
  rw [View.write_emb_of_mem f w (Finset.mem_univ x), h, View.read_apply, cast_cast, cast_eq]

/-- What transfer `t` reads on `c` is what its slot is said to hold on the device it reaches. -/
theorem sent (t : T) (c : Dev nD) :
    (srcM t c).view.read (Elt F) (srcC m t c) = (dstM t).view.read (Elt F) (dstC m t (tgt t c)) := by
  funext x
  have hp : partner (partner c) = c := nb_nb 0 c
  have hy : ymate (ymate c) = c := nb_nb 1 c
  have hz : zmate (zmate c) = c := nb_nb 2 c
  rcases t with k | _ | k | _ | k | _
  · refine (read_x (n := 64) _ (k0_off1_inb c k) shapeCasts_S1x64x512_S64x512 (k0_off1_eq c k) (X m c) x).trans ?_
    show _ = X m (partner (partner c)) (xix (rowMe (partner c) + ((blkR k).emb x 0 : ℕ)) (col (partner c) + ((blkR k).emb x 1 : ℕ)))
    rw [ValueKit.rect_emb_unit_val, ValueKit.rect_emb_unit_val, hp, row_partner, col_partner]
    simp only [Matrix.cons_val_zero, Matrix.cons_val_one, Nat.zero_add, Nat.add_assoc]
  · refine (read_x (n := 104) _ (k0_off2_inb c) shapeCasts_S1x104x512_S104x512 (k0_off2_eq c) (X m c) x).trans ?_
    show _ = X m (partner (partner c)) (xix (rowG (partner c) + (x 0 : ℕ)) (col (partner c) + (x 1 : ℕ)))
    rw [hp, col_partner, show rowG (partner c) = rowG c from congrArg (768 - ·) (row_partner c)]
  · show xoC m c ((blkR k).emb x) = xoC m (ymate (ymate c)) (bix ((blkR k).emb x 0 : ℕ) ((blkR k).emb x 1 : ℕ))
    rw [hy]
    exact congrArg _ (eq_bix _ rfl rfl)
  · show zoC m c (bgR.emb x) = zoC m (ymate (ymate c)) (bix ((x 0 : ℕ) + 104) (x 1 : ℕ))
    rw [hy]
    exact congrArg _ ((emb_b (n := 72) 104 inb_S256x512_S72x512_104_0 x).trans (by rw [Nat.add_comm]))
  · show xoC m c ((blkR k).emb x) = xoC m (zmate (zmate c)) (bix ((blkR k).emb x 0 : ℕ) ((blkR k).emb x 1 : ℕ))
    rw [hz]
    exact congrArg _ (eq_bix _ rfl rfl)
  · show yoC m c (dgR.emb x) = yoC m (zmate (zmate c)) (bix ((x 0 : ℕ) + 176) (x 1 : ℕ))
    rw [hz]
    exact congrArg _ ((emb_b (n := 80) 176 inb_S256x512_S80x512_176_0 x).trans (by rw [Nat.add_comm]))

/-- So the slot, rewritten by the transfer, holds what it is said to hold. -/
theorem landed (t : T) (c : Dev nD) (f : Buf (Elt F) ((dstM t).view.loc (tgt t c : Thread nD τ))) :
    ∀ i ∈ (dstM t).view.set, (dstM t).view.write (Elt F) f ((srcM t c).view.read (Elt F) (srcC m t c)) Finset.univ i = dstC m t (tgt t c) i :=
  write_read_eq (dstM t).view f (dstC m t (tgt t c)) _ (sent m t c)

/-! ## The result -/

/-- The device whose rows are added to a device's own row `r`: the partner for its own quarter, the neighbours' partners
    for theirs, and for the fourth quarter the partner for the first 104 rows, then the partners of the fourth device. -/
def srcDev (c : Dev nD) (r : ℕ) : Dev nD :=
  if r / 256 = rowMe c / 256 then partner c
  else if r / 256 = rowMe (zmate c) / 256 then partner (zmate c)
  else if r / 256 = rowMe (ymate c) / 256 then partner (ymate c)
  else if r % 256 < 104 then partner c
  else if r % 256 < 176 then partner (zmate (ymate c))
  else partner (ymate (zmate c))

/-- A device's result: its own rows at its half of the columns plus the same rows of the device `srcDev` names. -/
def outAt (c : Dev nD) : (cc0_stg1_0 : Ref sig .tc).ty.Contents (Elt F) :=
  fun i => FloatOps.addf (X m c (xix (i 0 : ℕ) (col c + (i 1 : ℕ)))) (X m (srcDev c (i 0 : ℕ)) (xix (i 0 : ℕ) (col c + (i 1 : ℕ))))

/-- The index of the result at row `r`, column `q`. -/
def oix (r q : ℕ) : S1024x512.Idx
  | ⟨0, _⟩ => ⟨r % 1024, Nat.mod_lt _ (by decide)⟩
  | ⟨1, _⟩ => ⟨q % 512, Nat.mod_lt _ (by decide)⟩

/-- A band of `n` rows that is the result's from row `lo` on. -/
def Good (c : Dev nD) (lo : ℕ) {n : ℕ} (v : (⟨2, ![n, 512]⟩ : Shape).Idx → Elt F .f32) : Prop :=
  ∀ j : (⟨2, ![n, 512]⟩ : Shape).Idx, v j = outAt m c (oix (lo + (j 0 : ℕ)) (j 1 : ℕ))

/-- A band is the result's when it adds, element by element, the right rows. -/
theorem good_add (c : Dev nD) (lo : ℕ) {n : ℕ} (hlo : lo + n ≤ 1024) (a b : (⟨2, ![n, 512]⟩ : Shape).Idx → Elt F .f32)
    (ha : ∀ j, a j = X m c (xix (lo + (j 0 : ℕ)) (col c + (j 1 : ℕ))))
    (hb : ∀ j, b j = X m (srcDev c (lo + (j 0 : ℕ))) (xix (lo + (j 0 : ℕ)) (col c + (j 1 : ℕ)))) : Good m c lo (addf a b) := by
  intro j
  have h0 : (j 0).val < n := (j 0).isLt
  have h1 : (j 1).val < 512 := (j 1).isLt
  show FloatOps.addf (a j) (b j) = FloatOps.addf (X m c (xix ((lo + (j 0 : ℕ)) % 1024) (col c + (j 1 : ℕ) % 512)))
    (X m (srcDev c ((lo + (j 0 : ℕ)) % 1024)) (xix ((lo + (j 0 : ℕ)) % 1024) (col c + (j 1 : ℕ) % 512)))
  rw [ha, hb, Nat.mod_eq_of_lt (show lo + (j 0 : ℕ) < 1024 by omega), Nat.mod_eq_of_lt h1]

/-! ## The rows each buffer supplies -/

/-- The four devices of a block have the four quarters. -/
theorem rows_facts (c : Dev nD) : rowMe c % 256 = 0 ∧ rowMe c < 1024 ∧ rowMe (zmate c) % 256 = 0 ∧ rowMe (zmate c) < 1024
    ∧ rowMe (ymate c) % 256 = 0 ∧ rowMe (ymate c) < 1024 ∧ rowG c % 256 = 0 ∧ rowG c < 1024
    ∧ rowMe c ≠ rowMe (zmate c) ∧ rowMe c ≠ rowMe (ymate c) ∧ rowMe c ≠ rowG c ∧ rowMe (zmate c) ≠ rowMe (ymate c)
    ∧ rowMe (zmate c) ≠ rowG c ∧ rowMe (ymate c) ≠ rowG c := by revert c; decide +kernel

/-- Rows of a device's own quarter come from its partner, -/
theorem src_me (c : Dev nD) (r : ℕ) (h : r < 256) : srcDev c (rowMe c + r) = partner c := by
  have hf := rows_facts c
  unfold srcDev; rw [if_pos (by omega)]
/-- of the `z` neighbour's quarter from the partner of that neighbour, -/
theorem src_z (c : Dev nD) (r : ℕ) (h : r < 256) : srcDev c (rowMe (zmate c) + r) = partner (zmate c) := by
  have hf := rows_facts c
  unfold srcDev; rw [if_neg (by omega), if_pos (by omega)]
/-- of the `y` neighbour's from the partner of that one, -/
theorem src_y (c : Dev nD) (r : ℕ) (h : r < 256) : srcDev c (rowMe (ymate c) + r) = partner (ymate c) := by
  have hf := rows_facts c
  unfold srcDev; rw [if_neg (by omega), if_neg (by omega), if_pos (by omega)]
/-- and of the fourth quarter from one of three devices, by the row. -/
theorem src_g (c : Dev nD) (r : ℕ) (h : r < 256) : srcDev c (rowG c + r)
    = if r < 104 then partner c else if r < 176 then partner (zmate (ymate c)) else partner (ymate (zmate c)) := by
  have hf := rows_facts c
  unfold srcDev
  rw [if_neg (by omega), if_neg (by omega), if_neg (by omega), show (rowG c + r) % 256 = r by omega]

/-- The rows the first scratch supplies, as rows of the device they come from; -/
theorem rows_xo (c : Dev nD) (r q : ℕ) (h : r < 256) (hq : q < 512) :
    xoC m c (bix r q) = X m (srcDev c (rowMe c + r)) (xix (rowMe c + r) (col c + q)) := by
  rw [src_me c r h]
  show X m (partner c) (xix (rowMe c + r % 256) (col c + q % 512)) = _
  rw [Nat.mod_eq_of_lt h, Nat.mod_eq_of_lt hq]
/-- those of the second; -/
theorem rows_xg (c : Dev nD) (j : S104x512.Idx) :
    xgC m c j = X m (srcDev c (rowG c + (j 0 : ℕ))) (xix (rowG c + (j 0 : ℕ)) (col c + (j 1 : ℕ))) := by
  have h0 : (j 0).val < 104 := (j 0).isLt
  rw [src_g c _ (by omega), if_pos h0]; rfl
/-- those the `z` neighbour passes on; -/
theorem rows_zo (c : Dev nD) (r q : ℕ) (h : r < 256) (hq : q < 512) :
    zoC m c (bix r q) = X m (srcDev c (rowMe (zmate c) + r)) (xix (rowMe (zmate c) + r) (col c + q)) := by
  show xoC m (zmate c) (bix (r % 256) (q % 512)) = _
  rw [Nat.mod_eq_of_lt h, Nat.mod_eq_of_lt hq, rows_xo m _ r q h hq, src_me _ r h, src_z c r h, (col_mates c).2]
/-- those the `y` neighbour passes on; -/
theorem rows_yo (c : Dev nD) (r q : ℕ) (h : r < 256) (hq : q < 512) :
    yoC m c (bix r q) = X m (srcDev c (rowMe (ymate c) + r)) (xix (rowMe (ymate c) + r) (col c + q)) := by
  show xoC m (ymate c) (bix (r % 256) (q % 512)) = _
  rw [Nat.mod_eq_of_lt h, Nat.mod_eq_of_lt hq, rows_xo m _ r q h hq, src_me _ r h, src_y c r h, (col_mates c).1]
/-- the 72 rows the `y` neighbour passes on a second time; -/
theorem rows_yg (c : Dev nD) (j : S72x512.Idx) :
    ygC m c j = X m (srcDev c (rowG c + 104 + (j 0 : ℕ))) (xix (rowG c + 104 + (j 0 : ℕ)) (col c + (j 1 : ℕ))) := by
  have h0 : (j 0).val < 72 := (j 0).isLt
  have h1 : (j 1).val < 512 := (j 1).isLt
  show zoC m (ymate c) (bix ((j 0 : ℕ) + 104) (j 1 : ℕ)) = _
  rw [rows_zo m _ _ _ (by omega) h1, src_z _ _ (by omega), (row_far c).1, (col_mates c).1, Nat.add_assoc, src_g c _ (by omega),
    if_neg (by omega), if_pos (by omega), Nat.add_comm (j 0 : ℕ) 104]
/-- and the 80 rows the `z` neighbour does. -/
theorem rows_zg (c : Dev nD) (j : S80x512.Idx) :
    zgC m c j = X m (srcDev c (rowG c + 176 + (j 0 : ℕ))) (xix (rowG c + 176 + (j 0 : ℕ)) (col c + (j 1 : ℕ))) := by
  have h0 : (j 0).val < 80 := (j 0).isLt
  have h1 : (j 1).val < 512 := (j 1).isLt
  show yoC m (zmate c) (bix ((j 0 : ℕ) + 176) (j 1 : ℕ)) = _
  rw [rows_yo m _ _ _ (by omega) h1, src_y _ _ (by omega), (row_far c).2, (col_mates c).2, Nat.add_assoc, src_g c _ (by omega),
    if_neg (by omega), if_neg (by omega), Nat.add_comm (j 0 : ℕ) 176]

end Cert.KernelIdealProof

end
-- ==== Proof.ISteps.lean ====
/-
# One step of the body

A rule for each kind of operation the body makes, in terms of the transfers and their slots: the three barrier signals and
the wait, a send, the wait on either end of a transfer, a load of the argument or of a landing slot, and a store of a band
of the result.
-/
module

public import proofs.«01_k».proof.Proof.ISched
public import proofs.«01_k».proof.Proof.IValue

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop shareTok)
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ)

abbrev 𝒱₀ : Variants := Variants.none

/-- The weakest precondition of a program run by device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Every cell's invariant, under the names `K`, and that it has reached its round. -/
def records (K : Dev nD × Ck → ℕ) : sProp 𝕄 :=
  bigSep Finset.univ fun ck => iprop(cellInv ER (Rd m) (K ck) (kcell ck) ∗ reached ER (kcell ck) 0)
/-- What every step may use: those, and the levels. -/
def Ctx (K : Dev nD × Ck → ℕ) : sProp 𝕄 := iprop(records m K ∗ levAts L lv)

instance records_persistent (K : Dev nD × Ck → ℕ) : BI.Persistent (records m K) := by unfold records; infer_instance
instance Ctx_persistent (K : Dev nD × Ck → ℕ) : BI.Persistent (Ctx m K) := by unfold Ctx; infer_instance

variable (K : Dev nD × Ck → ℕ)

/-- What all the devices know says of each cell that it keeps its rounds and that the first has been reached. -/
theorem ctx_cell (ck : Dev nD × Ck) : Ctx m K ⊢ iprop(cellInv ER (Rd m) (K ck) (kcell ck) ∗ reached ER (kcell ck) 0) := by
  unfold Ctx records
  exact sep_elim_left.trans (bigSep_elim (Finset.mem_univ ck))

/-- A device may wait at a cell below the levels of all it still owes. -/
theorem ctx_mayWait (c : Dev nD) (sm : SemLoc sig) (l : List It) (h : ∀ x ∈ l, lvS sm < lvI x) :
    Ctx m K ⊢ MayWait (c : Thread nD τ) sm () (OL c l) := by
  unfold Ctx
  exact sep_elim_right.trans (mayWait_OL c sm l h)

/-- What a device still owes: the payments of the list. -/
def Owe (c : Dev nD) (l : List It) : sProp 𝕄 := iprop(∃ W, owes (c : Thread nD τ) (OL c l) W)

/-- What a device needs to make transfer `t`, besides the elements it moves; -/
def SndI (t : T) (c : Dev nD) : sProp 𝕄 :=
  iprop(dutyTok ER (sendCell t c) 0 0 ∗ dutyTok ER (recvCell t (tgt t c)) 0 0 ∗ atPos ER (sendCell t c) 0 ∅ 0)
/-- to wait for it to be sent; -/
def SndF (t : T) (c : Dev nD) : sProp 𝕄 := iprop(cred (tallyAt (sendCell t c) () (N t)) ∗ atPos ER (sendCell t c) 0 ∅ 0)
/-- to wait for the one that lands on it; -/
def RcvI (t : T) (c : Dev nD) : sProp 𝕄 := iprop(cred (tallyAt (recvCell t c) () (N t)) ∗ atPos ER (recvCell t c) 0 ∅ 0)
/-- to wait on its barrier. -/
def BarI (c : Dev nD) : sProp 𝕄 := iprop(cred (tallyAt (barCell c) () 3) ∗ atPos ER (barCell c) 0 ∅ 0)
/-- Its cells when it is done with them. -/
abbrev sendDone (t : T) (c : Dev nD) : sProp 𝕄 := semVal (sendCell t c) 0
abbrev recvDone (t : T) (c : Dev nD) : sProp 𝕄 := semVal (recvCell t c) 0
abbrev barDone (c : Dev nD) : sProp 𝕄 := semVal (barCell c) 0

/-- The five landing slots of a leg on `c`. -/
def legSlots (i : Fin 3) (c : Dev nD) : sProp 𝕄 := bigSep Finset.univ fun n : Fin 5 => slotAny (F := F) (tOf i.val n.val) c

section Steps
variable (c : Dev nD)

/-- A barrier signal to the neighbour on leg `i` hands over the leg's slots here. -/
theorem signal_step {α : Type} {Q : α → sProp 𝕄} {k : PUnit → Prog (TpuEff nD τ sig (Elt F) Λ₀ .tc) α}
    (n : Dev nD) (i : Fin 3) (hn : n = nb i c) (l : List It) {k' : ℕ} (hk : 1 = k') :
    iprop(Ctx m K ∗ Owe c (.inl i :: l) ∗ dutyTok ER (barCell (nb i c)) 0 i ∗ legSlots (F := F) i c)
      ⊢ iprop((Owe c l -∗ WP c (k ⟨⟩) Q) -∗ WP c (.op (.semSignal ((n : Thread nD τ)) barS k') k) Q) := by
  subst hn; subst hk
  unfold Owe
  iintro ⟨#HC, ⟨%W, HO⟩, Ht, Hs⟩ Hk
  ihave #HI := (ctx_cell m K (nb i c, none)) $$ HC
  icases HI with ⟨HI, HR⟩
  iapply (Rounds.wp_signal 𝒱₀ ER (Rd m) (c : Thread nD τ) none (dst := (nb i c : Thread nD τ)) (κ := K (nb i c, none))
      (d := i) (by rw [duties_bar]; exact Finset.mem_univ _) (amount_bar m (nb i c) i) () (OL c l) rfl) $$ [HO Ht Hs]
  · isplitr; · iexact HI
    isplitl [HO]; · iexact HO
    isplitl [Ht]; · iexact Ht
    isplitl [Hs]
    · rw [payload_bar]; unfold barPay; rw [nb_nb]; unfold legSlots; iexact Hs
    iexact HR
  iintro HO
  iapply Hk
  iexists W; iexact HO

/-- The wait on the barrier: the slots of the three legs on the neighbours. -/
theorem barwait_step {α : Type} {Q : α → sProp 𝕄} {k : PUnit → Prog (TpuEff nD τ sig (Elt F) Λ₀ .tc) α}
    (l : List It) (hl : ∀ x ∈ l, 1 < lvI x) {k' : ℕ} (hk : 3 = k') :
    iprop(Ctx m K ∗ Owe c l ∗ BarI (F := F) c)
      ⊢ iprop(((Owe c l ∗ barDone c ∗ barPay (F := F) 0 c ∗ barPay (F := F) 1 c ∗ barPay (F := F) 2 c) -∗ WP c (k ⟨⟩) Q)
          -∗ WP c (.op (.semWait barS k') k) Q) := by
  subst hk
  unfold Owe BarI
  iintro ⟨#HC, ⟨%W, HO⟩, Hc, Ha⟩ Hk
  ihave #HI := (ctx_cell m K (c, none)) $$ HC
  icases HI with ⟨HI, HR⟩
  iapply (Rounds.wp_wait_rest_token 𝒱₀ ER (Rd m) (c : Thread nD τ) none (κ := K (c, none))
      (wpE_semWait_eq 𝒱₀ (c : Thread nD τ) none Set.univ) (Set.mem_univ _) () (O := OL c l) (W := W) (R := 0) (m := 0) (T := ∅)
      (by rw [expect_bar])) $$ [Hc HO Ha]
  · isplitr; · iexact HI
    isplitl [Hc]; · iexact Hc
    isplitl [HO]; · iexact HO
    isplitr; · iapply (ctx_mayWait m K c (.reg barS) l hl); iexact HC
    iexact Ha
  iintro ⟨HO, Ha, -, Hp⟩
  imod (Rounds.cell_close ER (Rd m) (Set.mem_univ (K (c, none))) (fun h => h) (R := 0 + 1) (duties_later m (barCell c))) $$ [Ha] with Hz
  · isplitr; · iexact HI
    iexact Ha
  ihave Hp := (Entails.of_eq (rest_bar m c)) $$ Hp
  iapply Hk
  isplitl [HO]; · iexists _; iexact HO
  isplitl [Hz]; · iexact Hz
  iexact Hp

/-- A send: what it reads and the slot it fills are gone until the waits on its two ends. -/
theorem send_step {α : Type} {Q : α → sProp 𝕄} {k : PUnit → Prog (TpuEff nD τ sig (Elt F) Λ₀ .tc) α}
    (t : T) (n : Dev nD) (hn : n = tgt t c) (l : List It) {hsc : (dstM t).view.ref.isScScratch = false}
    {hsrc : (srcM t c).view.WordExact} {hdst : (dstM t).view.WordExact}
    {hsem : DmaTarget.Typed .vmem (.dma (recvS t)) (.remote (Dev.tc n : Thread nD τ) (dstM t) (.dma (sendS t)) hsc)} :
    iprop(Ctx m K ∗ Owe c (.inr t :: l) ∗ SndI (F := F) t c ∗ srcPts m t c ∗ slotAny (F := F) t (tgt t c))
      ⊢ iprop(((Owe c l ∗ SndF (F := F) t c) -∗ WP c (k ⟨⟩) Q)
          -∗ WP c (.op (.enqueueDma (srcM t c) (.remote (Dev.tc n : Thread nD τ) (dstM t) (.dma (sendS t)) hsc) (.dma (recvS t)) hsrc hdst hsem) k) Q) := by
  subst hn
  unfold Owe SndI SndF srcPts slotAny slotPts
  iintro ⟨#HC, ⟨%W, HO⟩, ⟨Hts, Htr, Ha⟩, Hsrc, ⟨%fd, Hdst⟩⟩ Hk
  ihave #HI := (ctx_cell m K (c, some (false, t))) $$ HC
  icases HI with ⟨HI, HR⟩
  ihave #HI' := (ctx_cell m K (tgt t c, some (true, t))) $$ HC
  icases HI' with ⟨HI', HR'⟩
  iapply (Rounds.wp_send_pointsTo 𝒱₀ ER (Rd m) (c : Thread nD τ) none (κ₁ := K (c, some (false, t))) (κ₂ := K (tgt t c, some (true, t)))
      (r₁ := 0) (r₂ := 0) (d₁ := 0) (d₂ := 0) (fd := fd)
      (by rw [duties_send]; exact Finset.mem_singleton_self _) (by rw [duties_recv]; exact Finset.mem_singleton_self _)
      () () (N t) rfl (amount_send m c t 0) (amount_recv m (tgt t c) t 0) (OL c l) rfl (W := W)
      (by rw [payload_send]; unfold srcPts; exact BI.Entails.refl _)
      (by rw [payload_recv]; unfold slotPts; exact Entails.of_eq (pointsTo_congr (landed m t c fd)))) $$ [HO Hts Htr Hsrc Hdst]
  · isplitr; · iexact HI
    isplitr; · iexact HI'
    isplitl [Hsrc]; · iexact Hsrc
    isplitl [Hdst]; · iexact Hdst
    isplitl [HO]; · iexact HO
    isplitl [Hts]; · iexact Hts
    isplitr; · iexact HR
    isplitl [Htr]; · iexact Htr
    iexact HR'
  iintro ⟨Hc, HO⟩
  iapply Hk
  isplitl [HO]; · iexists W; iexact HO
  isplitl [Hc] <;> iassumption

/-- The wait for a transfer to land: its slot, holding what was sent. -/
theorem recv_step {α : Type} {Q : α → sProp 𝕄} {k : PUnit → Prog (TpuEff nD τ sig (Elt F) Λ₀ .tc) α}
    (t : T) (l : List It) (hl : ∀ x ∈ l, lvT t < lvI x) {sp : Space} {s : Shape} {e : EltTy}
    {src : Memref sig .tc sp s e} {hsrc : src.view.WordExact} {hdst : (dstM t).view.WordExact} :
    iprop(Ctx m K ∗ Owe c l ∗ RcvI (F := F) t c)
      ⊢ iprop(((Owe c l ∗ recvDone t c ∗ slotPts t c (dstC m t c)) -∗ WP c (k ⟨⟩) Q)
          -∗ WP c (.op (.waitDma2 (recvS t) src (dstM t) hsrc hdst) k) Q) := by
  unfold Owe RcvI
  iintro ⟨#HC, ⟨%W, HO⟩, Hc, Ha⟩ Hk
  ihave #HI := (ctx_cell m K (c, some (true, t))) $$ HC
  icases HI with ⟨HI, HR⟩
  iapply (Rounds.wp_wait_rest_token 𝒱₀ ER (Rd m) (c : Thread nD τ) none (κ := K (c, some (true, t)))
      (wpE_waitDma2_eq 𝒱₀ (c : Thread nD τ) none Set.univ) (Set.mem_univ _) () (O := OL c l) (W := W) (R := 0) (m := 0) (T := ∅)
      (by rw [Nat.zero_add, expect_recv]; rfl)) $$ [Hc HO Ha]
  · isplitr; · iexact HI
    isplitl [Hc]; · iexact Hc
    isplitl [HO]; · iexact HO
    isplitr; · iapply (ctx_mayWait m K c (.dma (recvS t)) l (by rw [lvS_recv]; exact hl)); iexact HC
    iexact Ha
  iintro ⟨HO, Ha, -, Hp⟩
  imod (Rounds.cell_close ER (Rd m) (Set.mem_univ (K (c, some (true, t)))) (fun h => h) (R := 0 + 1) (duties_later m (recvCell t c))) $$ [Ha] with Hz
  · isplitr; · iexact HI
    iexact Ha
  ihave Hp := (Entails.of_eq (rest_recv m c t)) $$ Hp
  iapply Hk
  isplitl [HO]; · iexists _; iexact HO
  isplitl [Hz]; · iexact Hz
  iexact Hp

/-- The wait for a transfer to be sent, nothing owed: what it read is back. -/
theorem sent_step {α : Type} {Q : α → sProp 𝕄} {k : PUnit → Prog (TpuEff nD τ sig (Elt F) Λ₀ .tc) α}
    (t : T) {sp sp' : Space} {s s' : Shape} {e e' : EltTy}
    {src : Memref sig .tc sp s e} {dst : Memref sig .tc sp' s' e'} {hsrc : src.view.WordExact} {hdst : dst.view.WordExact}
    (hN : dst.view.dmaCredit = N t) :
    iprop(Ctx m K ∗ Owe c [] ∗ SndF (F := F) t c)
      ⊢ iprop(((Owe c [] ∗ sendDone t c ∗ srcPts m t c) -∗ WP c (k ⟨⟩) Q)
          -∗ WP c (.op (.waitDma2 (sendS t) src dst hsrc hdst) k) Q) := by
  unfold Owe SndF
  iintro ⟨#HC, ⟨%W, HO⟩, Hc, Ha⟩ Hk
  ihave #HI := (ctx_cell m K (c, some (false, t))) $$ HC
  icases HI with ⟨HI, HR⟩
  iapply (Rounds.wp_wait_rest_token 𝒱₀ ER (Rd m) (c : Thread nD τ) none (κ := K (c, some (false, t)))
      (wpE_waitDma2_eq 𝒱₀ (c : Thread nD τ) none Set.univ) (Set.mem_univ _) () (O := OL c []) (W := W) (R := 0) (m := 0) (T := ∅)
      (by rw [Nat.zero_add, expect_send, hN])) $$ [Hc HO Ha]
  · isplitr; · iexact HI
    isplitl [Hc]; · rw [hN]; iexact Hc
    isplitl [HO]; · iexact HO
    isplitr; · iapply (ctx_mayWait m K c (.dma (sendS t)) [] (fun x hx => absurd hx List.not_mem_nil)); iexact HC
    iexact Ha
  iintro ⟨HO, Ha, -, Hp⟩
  imod (Rounds.cell_close ER (Rd m) (Set.mem_univ (K (c, some (false, t)))) (fun h => h) (R := 0 + 1) (duties_later m (sendCell t c))) $$ [Ha] with Hz
  · isplitr; · iexact HI
    iexact Ha
  ihave Hp := (Entails.of_eq (rest_send m c t)) $$ Hp
  iapply Hk
  isplitl [HO]; · iexists _; iexact HO
  isplitl [Hz]; · iexact Hz
  iexact Hp

/-! ## The result's buffer -/

/-- Row `i` lies in one of the bands of the list, a band a first row and a number of rows. -/
def InBands (l : List (ℕ × ℕ)) (r : ℕ) : Prop := ∃ p ∈ l, p.1 ≤ r ∧ r < p.1 + p.2
/-- The result's buffer, the bands of the list written. -/
def OutI (l : List (ℕ × ℕ)) : sProp 𝕄 :=
  iprop(∃ f : Buf (Elt F) ((c : Thread nD τ).loc cc0_stg1_0), ⌜∀ i : S1024x512.Idx, InBands l (i 0 : ℕ) → f i = outAt m c i⌝
    ∗ (((c : Thread nD τ).loc cc0_stg1_0) ↦{fullShare} f))

/-- The buffer with a band of the result written holds the result there, and what it held elsewhere. -/
theorem band_written (l : List (ℕ × ℕ)) (lo : ℕ) {n : ℕ} (inb) (w : (⟨2, ![n, 512]⟩ : Shape).Idx → Elt F .f32) (hw : Good m c lo w)
    (f : (cc0_stg1_0 : Ref sig .tc).ty.Contents (Elt F)) (hf : ∀ i : S1024x512.Idx, InBands l (i 0 : ℕ) → f i = outAt m c i) :
    ∀ i : S1024x512.Idx, InBands ((lo, n) :: l) (i 0 : ℕ) →
      ((View.whole cc0_stg1_0).slice (Rect.unit (s := S1024x512) ![lo, 0] (⟨2, ![n, 512]⟩ : Shape).size inb)).write (Elt F) f w Finset.univ i = outAt m c i := by
  intro i hi
  have h0 : (i 0).val < 1024 := (i 0).isLt
  have h1 : (i 1).val < 512 := (i 1).isLt
  by_cases hmem : i ∈ ((View.whole cc0_stg1_0).slice (Rect.unit (s := S1024x512) ![lo, 0] (⟨2, ![n, 512]⟩ : Shape).size inb)).set
  · obtain ⟨j, rfl⟩ := View.exists_emb_of_mem_set _ hmem
    refine (View.write_emb_of_mem (v := (View.whole cc0_stg1_0).slice (Rect.unit (s := S1024x512) ![lo, 0] (⟨2, ![n, 512]⟩ : Shape).size inb))
      f w (Finset.mem_univ j)).trans ((hw j).trans (congrArg (outAt m c) ?_))
    have e0 := ValueKit.rect_emb_unit_val (s := S1024x512) ![lo, 0] (⟨2, ![n, 512]⟩ : Shape).size inb j 0
    have e1 := ValueKit.rect_emb_unit_val (s := S1024x512) ![lo, 0] (⟨2, ![n, 512]⟩ : Shape).size inb j 1
    have b0 : lo + (j 0 : ℕ) < 1024 := by rw [← show _ = lo + (j 0 : ℕ) from e0]; exact Fin.isLt _
    have b1 : (j 1).val < 512 := (j 1).isLt
    funext a
    fin_cases a
    · exact Fin.ext ((Nat.mod_eq_of_lt b0).trans e0.symm)
    · exact Fin.ext ((Nat.mod_eq_of_lt b1).trans ((Nat.zero_add _).symm.trans e1.symm))
  · refine (View.write_of_not_mem f w Finset.univ hmem).trans (hf i ?_)
    obtain ⟨p, hp, hlo, hhi⟩ := hi
    rcases List.mem_cons.mp hp with rfl | hp
    · exact absurd (by
        rw [View.set_slice_whole, Rect.mem_set_unit]
        intro a
        fin_cases a
        · exact ⟨hlo, hhi⟩
        · exact ⟨Nat.zero_le _, (Nat.zero_add 512).symm ▸ h1⟩) hmem
    · exact ⟨p, hp, hlo, hhi⟩

/-- A load of the result's buffer, the value read unused. -/
theorem outload_step {α : Type} {Q : α → sProp 𝕄} (l : List (ℕ × ℕ)) {r : LoadRect S1024x512} {hl : oM.view.LoadsAt r}
    {k : (r.shape.Idx → Elt F .f32) → Prog (TpuEff nD τ sig (Elt F) Λ₀ .tc) α} :
    OutI m c l ⊢ iprop((∀ v, OutI m c l -∗ WP c (k v) Q) -∗ WP c (.op (.load oM r hl) k) Q) := by
  unfold OutI
  iintro ⟨%f, %hf, Ho⟩ Hk
  iapply (wp_load 𝒱₀ (c : Thread nD τ) none Set.univ (m := oM) (Finset.subset_univ _)) $$ Ho; iintro Ho
  iapply Hk
  iexists f
  isplitr; · ipureintro; exact hf
  iexact Ho

/-- Storing a band that is the result's adds it to the bands written. -/
theorem store_step {α : Type} {Q : α → sProp 𝕄} {k : PUnit → Prog (TpuEff nD τ sig (Elt F) Λ₀ .tc) α}
    (l : List (ℕ × ℕ)) (lo : ℕ) {n : ℕ} (off : Fin 2 → ℕ) (inb) (hoff : off = ![lo, 0])
    (w : (⟨2, ![n, 512]⟩ : Shape).Idx → Elt F .f32) (hw : Good m c lo w)
    {hx : (oM.access (Rect.unit (s := S1024x512) off (⟨2, ![n, 512]⟩ : Shape).size inb)).Stores Finset.univ} {hm} :
    OutI m c l ⊢ iprop((OutI m c ((lo, n) :: l) -∗ WP c (k ⟨⟩) Q)
      -∗ WP c (.op (.store oM (Rect.unit (s := S1024x512) off (⟨2, ![n, 512]⟩ : Shape).size inb) w Finset.univ hx hm) k) Q) := by
  unfold OutI
  iintro ⟨%f, %hf, Ho⟩ Hk
  iapply (wp_store 𝒱₀ (c : Thread nD τ) none Set.univ (m := oM) (r := Rect.unit (s := S1024x512) off (⟨2, ![n, 512]⟩ : Shape).size inb) (w := w) (Mk := Finset.univ) (Finset.subset_univ _)) $$ Ho; iintro Ho
  iapply Hk
  iexists _
  isplitr
  rotate_left
  · iexact Ho
  ipureintro
  subst hoff
  exact band_written m c l lo inb w hw f hf

end Steps

end Cert.KernelIdealProof

end
-- ==== Proof.IBands.lean ====
/-
# The bands of the result

Every transfer a device receives supplies one band of its result: the rows of the device's own half of the argument that
the band adds the received rows to. This module names the band of each transfer, shows that a landing slot holds the rows
its band needs, and gives the steps of the body that read a slot and the argument and store a band.
-/
module

public import proofs.«01_k».proof.Proof.ISteps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop shareTok)
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ)

/-- The first row of the band transfer `t` supplies on `c`, -/
def lo (c : Dev nD) : T → ℕ
  | .a k => rowMe c + 64 * k.val | .b k => rowMe (ymate c) + 64 * k.val | .d k => rowMe (zmate c) + 64 * k.val
  | .ag => rowG c | .bg => rowG c + 104 | .dg => rowG c + 176
/-- and its number of rows. -/
def ht : T → ℕ
  | .ag => 104 | .bg => 72 | .dg => 80 | _ => 64

/-- Every band lies inside the result. -/
theorem lo_le (c : Dev nD) (t : T) : lo c t + ht t ≤ 1024 := by revert c t; decide +kernel

/-- The result's buffer, the bands of the transfers of the list written. -/
abbrev OutB (c : Dev nD) (l : List T) : sProp 𝕄 := OutI m c (l.map fun t => (lo c t, ht t))

/-- A landing slot holding what was sent, at a share. -/
def slotQ (q : PosShare TreeShare) (t : T) (c : Dev nD) : sProp 𝕄 :=
  (dstM t).view.loc (c : Thread nD τ) ↦[(dstM t).view.set]{q} dstC m t c
/-- The argument's block at the share the loads read it at. -/
def xL (c : Dev nD) : sProp 𝕄 := xM.view.loc (c : Thread nD τ) ↦{shareDrop fullShare 5} X m c

/-- The band from row `lo` on of the rows the result adds to a device's own. -/
abbrev Other (c : Dev nD) (lo : ℕ) {n : ℕ} (v : (⟨2, ![n, 512]⟩ : Shape).Idx → Elt F .f32) : Prop :=
  ∀ j, v j = X m (srcDev c (lo + (j 0 : ℕ))) (xix (lo + (j 0 : ℕ)) (col c + (j 1 : ℕ)))

section Vals
variable (c : Dev nD) (k : Fin 4)

/-- Each slot holds the rows its band needs: the slots filled by the partner, -/
theorem other_a : Other m c (lo c (.a k)) ((xoM.access (blkR k)).read (Elt F) (xoC m c)) := fun j => by
  have h0 : (j 0).val < 64 := (j 0).isLt
  show xoC m c ((blkR k).emb j) = _
  rw [emb_b (n := 64), rows_xo m c _ _ (by omega) (j 1).isLt]
  simp only [lo, Nat.add_assoc]
/-- the slots filled by the `y` neighbour, -/
theorem other_b : Other m c (lo c (.b k)) ((yoM.access (blkR k)).read (Elt F) (yoC m c)) := fun j => by
  have h0 : (j 0).val < 64 := (j 0).isLt
  show yoC m c ((blkR k).emb j) = _
  rw [emb_b (n := 64), rows_yo m c _ _ (by omega) (j 1).isLt]
  simp only [lo, Nat.add_assoc]
/-- those filled by the `z` neighbour, -/
theorem other_d : Other m c (lo c (.d k)) ((zoM.access (blkR k)).read (Elt F) (zoC m c)) := fun j => by
  have h0 : (j 0).val < 64 := (j 0).isLt
  show zoC m c ((blkR k).emb j) = _
  rw [emb_b (n := 64), rows_zo m c _ _ (by omega) (j 1).isLt]
  simp only [lo, Nat.add_assoc]

/-- The rectangle of all of a buffer keeps every index. -/
theorem emb_all {n : ℕ} (inb) (j : (⟨2, ![n, 512]⟩ : Shape).Idx) :
    (Rect.unit (s := ⟨2, ![n, 512]⟩) ![0, 0] (⟨2, ![n, 512]⟩ : Shape).size inb).emb j = j := by
  funext a
  refine Fin.ext ((ValueKit.rect_emb_unit_val _ _ inb j a).trans ?_)
  fin_cases a <;> exact Nat.zero_add _

/-- the slot of the 104 rows, -/
theorem other_ag (inb) : Other m c (lo c .ag) ((xgM.access (Rect.unit (s := S104x512) ![0, 0] S104x512.size inb)).read (Elt F) (xgC m c)) := fun j =>
  (congrArg (xgC m c) (emb_all (n := 104) inb j)).trans (rows_xg m c j)
/-- of the 72 rows, -/
theorem other_bg (inb) : Other m c (lo c .bg) ((ygM.access (Rect.unit (s := S72x512) ![0, 0] S72x512.size inb)).read (Elt F) (ygC m c)) := fun j =>
  (congrArg (ygC m c) (emb_all (n := 72) inb j)).trans (rows_yg m c j)
/-- and of the 80 rows. -/
theorem other_dg (inb) : Other m c (lo c .dg) ((zgM.access (Rect.unit (s := S80x512) ![0, 0] S80x512.size inb)).read (Elt F) (zgC m c)) := fun j =>
  (congrArg (zgC m c) (emb_all (n := 80) inb j)).trans (rows_zg m c j)

end Vals

section Steps
variable (c : Dev nD)

/-- A load of a slot and a load of the argument's rows of its band: their sum is the result's band. -/
theorem look {α : Type} {Q : α → sProp 𝕄} {n : ℕ} {s : Shape} (M : Memref sig .tc .vmem s .f32) (r : Rect s) (hr : r.shape = ⟨2, ![n, 512]⟩)
    {S : Finset (Idx ((M.access r).loc (c : Thread nD τ)))} {q : PosShare TreeShare} {f : Buf (Elt F) ((M.access r).loc (c : Thread nD τ))}
    (hS : (M.access r).set ⊆ S) (row : ℕ) (hrow : row + n ≤ 1024)
    (ho : Other m c row (n := n) (hr ▸ (M.access r).read (Elt F) f)) (off : Fin 3 → ℕ) (inb) (hoff : off = ![0, row, col c]) (hc)
    {hl} {hx} {k : (r.shape.Idx → Elt F .f32) → ((⟨3, ![1, n, 512]⟩ : Shape).Idx → Elt F .f32) → Prog (TpuEff nD τ sig (Elt F) Λ₀ .tc) α} :
    iprop(((M.access r).loc (c : Thread nD τ) ↦[S]{q} f) ∗ xL m c)
      ⊢ iprop((∀ v w, ⌜Good m c row (n := n) (addf (shapeCast ⟨2, ![n, 512]⟩ w hc) (hr ▸ v))⌝
            -∗ (((M.access r).loc (c : Thread nD τ) ↦[S]{q} f) ∗ xL m c) -∗ WP c (k v w) Q)
          -∗ WP c (.op (.load M r.toLoadRect hl) fun v =>
              .op (.load xM (Rect.unit (s := S1x1024x1024) off (⟨3, ![1, n, 512]⟩ : Shape).size inb).toLoadRect hx) fun w => k v w) Q) := by
  unfold xL
  iintro ⟨Hs, Hx⟩ Hk
  iapply (wp_load_rect 𝒱₀ (c : Thread nD τ) none Set.univ (m := M) (r := r) hS) $$ Hs; iintro Hs
  iapply (wp_load 𝒱₀ (c : Thread nD τ) none Set.univ (m := xM) (Finset.subset_univ _)) $$ Hx; iintro Hx
  iapply Hk $$ [] [Hs Hx]
  · ipureintro
    exact good_add m c row hrow _ _ (read_x off inb hc hoff (X m c)) ho
  isplitl [Hs] <;> iassumption

/-- The two loads, the load of the result's band, whose value goes unused, and the store of the sum: the band is written. -/
theorem add {α : Type} {Q : α → sProp 𝕄} {n : ℕ} {s : Shape} (M : Memref sig .tc .vmem s .f32) (r : Rect s) (hr : r.shape = ⟨2, ![n, 512]⟩)
    {S : Finset (Idx ((M.access r).loc (c : Thread nD τ)))} {q : PosShare TreeShare} {f : Buf (Elt F) ((M.access r).loc (c : Thread nD τ))}
    (hS : (M.access r).set ⊆ S) (row : ℕ) (hrow : row + n ≤ 1024)
    (ho : Other m c row (n := n) (hr ▸ (M.access r).read (Elt F) f)) {off : Fin 3 → ℕ} {inb} (hoff : off = ![0, row, col c]) (hc)
    {off' : Fin 2 → ℕ} {inb'} (hoff' : off' = ![row, 0]) (l : List (ℕ × ℕ))
    {hl} {hx} {hy} {hz} {hm} {pay : (r.shape.Idx → Elt F .f32) → ((⟨3, ![1, n, 512]⟩ : Shape).Idx → Elt F .f32) → ((⟨2, ![n, 512]⟩ : Shape).Idx → Elt F .f32)}
    (hp : ∀ v w, pay v w = addf (shapeCast ⟨2, ![n, 512]⟩ w hc) (hr ▸ v)) {k : PUnit → Prog (TpuEff nD τ sig (Elt F) Λ₀ .tc) α} :
    iprop(((M.access r).loc (c : Thread nD τ) ↦[S]{q} f) ∗ xL m c ∗ OutI m c l)
      ⊢ iprop(((((M.access r).loc (c : Thread nD τ) ↦[S]{q} f) ∗ xL m c ∗ OutI m c ((row, n) :: l)) -∗ WP c (k ⟨⟩) Q)
          -∗ WP c (.op (.load M r.toLoadRect hl) fun v =>
              .op (.load xM (Rect.unit (s := S1x1024x1024) off (⟨3, ![1, n, 512]⟩ : Shape).size inb).toLoadRect hx) fun w =>
              .op (.load oM (Rect.unit (s := S1024x512) off' (⟨2, ![n, 512]⟩ : Shape).size inb').toLoadRect hy) fun _ =>
              .op (.store oM (Rect.unit (s := S1024x512) off' (⟨2, ![n, 512]⟩ : Shape).size inb') (pay v w) Finset.univ hz hm) k) Q) := by
  iintro ⟨Hs, Hx, Ho⟩ Hk
  iapply (look m c M r hr hS row hrow ho off inb hoff hc) $$ [Hs Hx]
  · isplitl [Hs] <;> iassumption
  iintro %v %w %hg ⟨Hs, Hx⟩
  iapply (outload_step m c l) $$ Ho
  iintro %u Ho
  iapply (store_step m c l row off' inb' hoff' (pay v w) (by rw [hp]; exact hg)) $$ Ho
  iintro Ho
  iapply Hk
  isplitl [Hs]; · iexact Hs
  isplitl [Hx] <;> iassumption

end Steps

end Cert.KernelIdealProof

end
-- ==== Proof.ISlots.lean ====
/-
# Splitting and rejoining the buffers

The argument's block is read by five transfers at once and by the loads, so it is dealt into shares; a landing slot of the
first leg is passed on by two transfers and read; the pieces passed on twice straddle two slots. Each split is stated with
its way back.
-/
module

public import proofs.«01_k».proof.Proof.IBands

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop shareTok)
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ)

/-! ## Rows of a 256-row buffer -/

/-- An index lies in a band of rows when its row does. -/
theorem mem_rows {n o : ℕ} (inb) (i : S256x512.Idx) :
    i ∈ (Rect.unit (s := S256x512) ![o, 0] (⟨2, ![n, 512]⟩ : Shape).size inb).set ↔ o ≤ (i 0).val ∧ (i 0).val < o + n := by
  rw [Rect.mem_set_unit]
  constructor
  · intro h; exact h 0
  · intro h a
    have h1 : (i 1).val < 512 := (i 1).isLt
    fin_cases a
    · exact h
    · exact ⟨Nat.zero_le _, (Nat.zero_add 512).symm ▸ h1⟩

/-- The four pieces of a 256-row buffer do not overlap, -/
theorem blk_disjoint (k k' : Fin 4) (h : k ≠ k') : Disjoint (blkR k).set (blkR k').set := by
  rw [Finset.disjoint_left]
  intro i hi hi'
  have h1 := (mem_rows (n := 64) (blk_inb k) i).mp hi
  have h2 := (mem_rows (n := 64) (blk_inb k') i).mp hi'
  exact h (Fin.ext (by omega))

/-- and together they are all of it. -/
theorem blk_univ : (Finset.univ : Finset S256x512.Idx) = Finset.univ.biUnion fun k : Fin 4 => (blkR k).set := by
  ext i
  have h0 : (i 0).val < 256 := (i 0).isLt
  simp only [Finset.mem_univ, Finset.mem_biUnion, true_and, true_iff]
  refine ⟨⟨(i 0).val / 64, by omega⟩, (mem_rows (n := 64) (blk_inb _) i).mpr ?_⟩
  show 64 * ((i 0).val / 64) ≤ _ ∧ _ < 64 * ((i 0).val / 64) + 64
  omega

/-- What `bg` sends lies in the slots of `d 1` and `d 2`, -/
theorem bg_sub : bgR.set ⊆ (blkR 1).set ∪ (blkR 2).set := fun i hi => by
  have h := (mem_rows (n := 72) inb_S256x512_S72x512_104_0 i).mp hi
  rw [Finset.mem_union, mem_rows (n := 64) (blk_inb 1), mem_rows (n := 64) (blk_inb 2)]
  show (64 * 1 ≤ _ ∧ _ < 64 * 1 + 64) ∨ (64 * 2 ≤ _ ∧ _ < 64 * 2 + 64)
  omega
/-- and what `dg` sends in those of `b 2` and `b 3`. -/
theorem dg_sub : dgR.set ⊆ (blkR 2).set ∪ (blkR 3).set := fun i hi => by
  have h := (mem_rows (n := 80) inb_S256x512_S80x512_176_0 i).mp hi
  rw [Finset.mem_union, mem_rows (n := 64) (blk_inb 2), mem_rows (n := 64) (blk_inb 3)]
  show (64 * 2 ≤ _ ∧ _ < 64 * 2 + 64) ∨ (64 * 3 ≤ _ ∧ _ < 64 * 3 + 64)
  omega

/-! ## Any buffer -/

section Any
variable {ℓ : Loc nD τ sig} {f : Buf (Elt F) ℓ}

/-- Four sets that make up a buffer. -/
theorem whole_four (S : Fin 4 → Finset (Idx ℓ)) (hd : ∀ k k', k ≠ k' → Disjoint (S k) (S k')) (hu : Finset.univ = Finset.univ.biUnion S)
    (q : PosShare TreeShare) :
    (ℓ ↦{q} f : sProp 𝕄) = iprop((ℓ ↦[S 0]{q} f) ∗ (ℓ ↦[S 1]{q} f) ∗ (ℓ ↦[S 2]{q} f) ∗ (ℓ ↦[S 3]{q} f)) := by
  rw [hu, pointsTo_biUnion _ _ fun k _ k' _ h => hd k k' h, bigSep_univ_eq_bigSepL [0, 1, 2, 3] (by decide) (by decide),
    bigSepL_cons_cons, bigSepL_cons_cons, bigSepL_cons_cons, bigSepL_singleton]
  rfl

/-- Two disjoint sets: a part of their union at the left half share, what is left of it, and each at the right half. -/
theorem lend (A B I : Finset (Idx ℓ)) (hd : Disjoint A B) (hI : I ⊆ A ∪ B) :
    iprop((ℓ ↦[A]{fullShare} f) ∗ (ℓ ↦[B]{fullShare} f))
      ⊣⊢ (iprop((ℓ ↦[I]{fullShare.left} f) ∗ (ℓ ↦[(A ∪ B) \ I]{fullShare.left} f) ∗ (ℓ ↦[A]{fullShare.right} f) ∗ (ℓ ↦[B]{fullShare.right} f)) : sProp 𝕄) := by
  have hA : (ℓ ↦[A]{fullShare} f : sProp 𝕄) ⊣⊢ _ := pointsTo_share (PosShare.mem_left_op_right fullShare)
  have hB : (ℓ ↦[B]{fullShare} f : sProp 𝕄) ⊣⊢ _ := pointsTo_share (PosShare.mem_left_op_right fullShare)
  have hU : (ℓ ↦[A ∪ B]{fullShare.left} f : sProp 𝕄) ⊣⊢ _ := pointsTo_union hd
  have hS : (ℓ ↦[A ∪ B]{fullShare.left} f : sProp 𝕄) ⊣⊢ _ := pointsTo_split_subset hI
  constructor
  · iintro ⟨HA, HB⟩
    ihave HA := hA.1 $$ HA
    ihave HB := hB.1 $$ HB
    icases HA with ⟨HAl, HAr⟩
    icases HB with ⟨HBl, HBr⟩
    ihave HU := hU.2 $$ [HAl HBl]
    · isplitl [HAl] <;> iassumption
    ihave HU := hS.1 $$ HU
    icases HU with ⟨HI, HR⟩
    isplitl [HI]; · iexact HI
    isplitl [HR]; · iexact HR
    isplitl [HAr] <;> iassumption
  · iintro ⟨HI, HR, HAr, HBr⟩
    ihave HU := hS.2 $$ [HI HR]
    · isplitl [HI] <;> iassumption
    ihave HU := hU.1 $$ HU
    icases HU with ⟨HAl, HBl⟩
    isplitl [HAl HAr]
    · iapply hA.2; isplitl [HAl] <;> iassumption
    · iapply hB.2; isplitl [HBl] <;> iassumption

/-- A set at its full share: at the two halves of the left half share and at the right half. -/
theorem thirds (A : Finset (Idx ℓ)) : (ℓ ↦[A]{fullShare} f)
    ⊣⊢ (iprop((ℓ ↦[A]{fullShare.left.left} f) ∗ (ℓ ↦[A]{fullShare.left.right} f) ∗ (ℓ ↦[A]{fullShare.right} f)) : sProp 𝕄) := by
  have h1 : (ℓ ↦[A]{fullShare} f : sProp 𝕄) ⊣⊢ _ := pointsTo_share (PosShare.mem_left_op_right fullShare)
  have h2 : (ℓ ↦[A]{fullShare.left} f : sProp 𝕄) ⊣⊢ _ := pointsTo_share (PosShare.mem_left_op_right fullShare.left)
  constructor
  · iintro H
    ihave H := h1.1 $$ H
    icases H with ⟨Hl, Hr⟩
    ihave Hl := h2.1 $$ Hl
    icases Hl with ⟨Hll, Hlr⟩
    isplitl [Hll]; · iexact Hll
    isplitl [Hlr] <;> iassumption
  · iintro ⟨Hll, Hlr, Hr⟩
    iapply h1.2
    isplitl [Hll Hlr]
    · iapply h2.2; isplitl [Hll] <;> iassumption
    · iexact Hr

end Any

/-! ## The landing slots -/

section Slots
variable (c : Dev nD)

/-- What a slot of the first leg holds is passed on twice, at the two halves of its left half share, and read at the right half. -/
theorem pass_a (k : Fin 4) : slotQ m fullShare (.a k) c ⊣⊢ iprop(srcPts m (.b k) c ∗ srcPts m (.d k) c ∗ slotQ m fullShare.right (.a k) c) := by
  unfold slotQ srcPts qS
  exact thirds (ℓ := xoM.view.loc (c : Thread nD τ)) (f := xoC m c) (dstM (.a k)).view.set

/-- The slots of the three 256-row buffers, as rows. -/
theorem rows_a (k : Fin 4) (q : PosShare TreeShare) (f : Buf (Elt F) (xoM.view.loc (c : Thread nD τ))) :
    (xoM.view.loc (c : Thread nD τ) ↦[(dstM (.a k)).view.set]{q} f : sProp 𝕄) = xoM.view.loc (c : Thread nD τ) ↦[(blkR k).set]{q} f :=
  congrArg (fun S : Finset S256x512.Idx => (xoM.view.loc (c : Thread nD τ) ↦[S]{q} f : sProp 𝕄)) (View.set_slice_whole cc0_scratch0 (blkR k))
/-- The same of the `y` neighbour's slots, -/
theorem rows_b (k : Fin 4) (q : PosShare TreeShare) (f : Buf (Elt F) (yoM.view.loc (c : Thread nD τ))) :
    (yoM.view.loc (c : Thread nD τ) ↦[(dstM (.b k)).view.set]{q} f : sProp 𝕄) = yoM.view.loc (c : Thread nD τ) ↦[(blkR k).set]{q} f :=
  congrArg (fun S : Finset S256x512.Idx => (yoM.view.loc (c : Thread nD τ) ↦[S]{q} f : sProp 𝕄)) (View.set_slice_whole cc0_scratch2 (blkR k))
/-- of the `z` neighbour's, -/
theorem rows_d (k : Fin 4) (q : PosShare TreeShare) (f : Buf (Elt F) (zoM.view.loc (c : Thread nD τ))) :
    (zoM.view.loc (c : Thread nD τ) ↦[(dstM (.d k)).view.set]{q} f : sProp 𝕄) = zoM.view.loc (c : Thread nD τ) ↦[(blkR k).set]{q} f :=
  congrArg (fun S : Finset S256x512.Idx => (zoM.view.loc (c : Thread nD τ) ↦[S]{q} f : sProp 𝕄)) (View.set_slice_whole cc0_scratch4 (blkR k))
/-- of what `bg` sends, -/
theorem rows_bg (q : PosShare TreeShare) (f : Buf (Elt F) (zoM.view.loc (c : Thread nD τ))) :
    (zoM.view.loc (c : Thread nD τ) ↦[(srcM .bg c).view.set]{q} f : sProp 𝕄) = zoM.view.loc (c : Thread nD τ) ↦[bgR.set]{q} f :=
  congrArg (fun S : Finset S256x512.Idx => (zoM.view.loc (c : Thread nD τ) ↦[S]{q} f : sProp 𝕄)) (View.set_slice_whole cc0_scratch4 bgR)
/-- and of what `dg` sends. -/
theorem rows_dg (q : PosShare TreeShare) (f : Buf (Elt F) (yoM.view.loc (c : Thread nD τ))) :
    (yoM.view.loc (c : Thread nD τ) ↦[(srcM .dg c).view.set]{q} f : sProp 𝕄) = yoM.view.loc (c : Thread nD τ) ↦[dgR.set]{q} f :=
  congrArg (fun S : Finset S256x512.Idx => (yoM.view.loc (c : Thread nD τ) ↦[S]{q} f : sProp 𝕄)) (View.set_slice_whole cc0_scratch2 dgR)

/-- The rows of the slots of `d 1` and `d 2` that `bg` does not send, and those of `b 2` and `b 3` that `dg` does not. -/
def zoRest : sProp 𝕄 := zoM.view.loc (c : Thread nD τ) ↦[((blkR 1).set ∪ (blkR 2).set) \ bgR.set]{fullShare.left} zoC m c
def yoRest : sProp 𝕄 := yoM.view.loc (c : Thread nD τ) ↦[((blkR 2).set ∪ (blkR 3).set) \ dgR.set]{fullShare.left} yoC m c

/-- The two slots `bg` sends from, lent to it at the left half share and read at the right half, -/
theorem pass_d : iprop(slotQ m fullShare (.d 1) c ∗ slotQ m fullShare (.d 2) c)
    ⊣⊢ iprop(srcPts m .bg c ∗ zoRest m c ∗ slotQ m fullShare.right (.d 1) c ∗ slotQ m fullShare.right (.d 2) c) := by
  unfold slotQ srcPts qS zoRest
  rw [rows_d, rows_d, rows_d, rows_d, rows_bg]
  exact lend (ℓ := zoM.view.loc (c : Thread nD τ)) (f := zoC m c) (blkR 1).set (blkR 2).set bgR.set (blk_disjoint 1 2 (by decide)) bg_sub
/-- and the two `dg` sends from. -/
theorem pass_b : iprop(slotQ m fullShare (.b 2) c ∗ slotQ m fullShare (.b 3) c)
    ⊣⊢ iprop(srcPts m .dg c ∗ yoRest m c ∗ slotQ m fullShare.right (.b 2) c ∗ slotQ m fullShare.right (.b 3) c) := by
  unfold slotQ srcPts qS yoRest
  rw [rows_b, rows_b, rows_b, rows_b, rows_dg]
  exact lend (ℓ := yoM.view.loc (c : Thread nD τ)) (f := yoC m c) (blkR 2).set (blkR 3).set dgR.set (blk_disjoint 2 3 (by decide)) dg_sub

/-- The three 256-row buffers are their four slots. -/
theorem xo_four (f : Buf (Elt F) (xoM.view.loc (c : Thread nD τ))) : (xoM.view.loc (c : Thread nD τ) ↦{fullShare} f : sProp 𝕄)
    = iprop(slotPts (.a 0) c f ∗ slotPts (.a 1) c f ∗ slotPts (.a 2) c f ∗ slotPts (.a 3) c f) := by
  unfold slotPts
  rw [rows_a, rows_a, rows_a, rows_a]
  exact whole_four (ℓ := xoM.view.loc (c : Thread nD τ)) (fun k => (blkR k).set) blk_disjoint blk_univ _
/-- The second of the three, -/
theorem yo_four (f : Buf (Elt F) (yoM.view.loc (c : Thread nD τ))) : (yoM.view.loc (c : Thread nD τ) ↦{fullShare} f : sProp 𝕄)
    = iprop(slotPts (.b 0) c f ∗ slotPts (.b 1) c f ∗ slotPts (.b 2) c f ∗ slotPts (.b 3) c f) := by
  unfold slotPts
  rw [rows_b, rows_b, rows_b, rows_b]
  exact whole_four (ℓ := yoM.view.loc (c : Thread nD τ)) (fun k => (blkR k).set) blk_disjoint blk_univ _
/-- and the third. -/
theorem zo_four (f : Buf (Elt F) (zoM.view.loc (c : Thread nD τ))) : (zoM.view.loc (c : Thread nD τ) ↦{fullShare} f : sProp 𝕄)
    = iprop(slotPts (.d 0) c f ∗ slotPts (.d 1) c f ∗ slotPts (.d 2) c f ∗ slotPts (.d 3) c f) := by
  unfold slotPts
  rw [rows_d, rows_d, rows_d, rows_d]
  exact whole_four (ℓ := zoM.view.loc (c : Thread nD τ)) (fun k => (blkR k).set) blk_disjoint blk_univ _
/-- The other three are each one slot. -/
theorem xg_one (f : Buf (Elt F) (xgM.view.loc (c : Thread nD τ))) : (xgM.view.loc (c : Thread nD τ) ↦{fullShare} f : sProp 𝕄) = slotPts .ag c f := by
  unfold slotPts; rw [show (dstM .ag).view.set = Finset.univ from View.set_whole _]
/-- The one `bg` fills, -/
theorem yg_one (f : Buf (Elt F) (ygM.view.loc (c : Thread nD τ))) : (ygM.view.loc (c : Thread nD τ) ↦{fullShare} f : sProp 𝕄) = slotPts .bg c f := by
  unfold slotPts; rw [show (dstM .bg).view.set = Finset.univ from View.set_whole _]
/-- and the one `dg` fills. -/
theorem zg_one (f : Buf (Elt F) (zgM.view.loc (c : Thread nD τ))) : (zgM.view.loc (c : Thread nD τ) ↦{fullShare} f : sProp 𝕄) = slotPts .dg c f := by
  unfold slotPts; rw [show (dstM .dg).view.set = Finset.univ from View.set_whole _]

/-- A leg's five slots, one by one. -/
theorem slots_leg (P : T → sProp 𝕄) (i : Fin 3) : bigSep Finset.univ (fun n : Fin 5 => P (tOf i.val n.val))
    = iprop(P (tOf i 0) ∗ P (tOf i 1) ∗ P (tOf i 2) ∗ P (tOf i 3) ∗ P (tOf i 4)) := by
  rw [bigSep_univ_eq_bigSepL [0, 1, 2, 3, 4] (by decide) (by decide),
    bigSepL_cons_cons, bigSepL_cons_cons, bigSepL_cons_cons, bigSepL_cons_cons, bigSepL_singleton]
  rfl

/-! ## The argument's block -/

/-- The part of the argument's block a transfer's share covers that the transfer does not read. -/
def xRest (t : T) (S : Finset S1x1024x1024.Idx) : sProp 𝕄 := xM.view.loc (c : Thread nD τ) ↦[Finset.univ \ S]{qS t} X m c
def xIn (t : T) (S : Finset S1x1024x1024.Idx) : sProp 𝕄 := xM.view.loc (c : Thread nD τ) ↦[S]{qS t} X m c

/-- The argument's block is a share for the loads and a share for each of the five transfers that read it, split at what the transfer reads. -/
theorem x_five (S0 S1 S2 S3 S4 : Finset S1x1024x1024.Idx) : (xM.view.loc (c : Thread nD τ) ↦{fullShare} X m c : sProp 𝕄)
    ⊣⊢ iprop(xL m c ∗ (xIn m c (.a 0) S0 ∗ xRest m c (.a 0) S0) ∗ (xIn m c (.a 1) S1 ∗ xRest m c (.a 1) S1) ∗ (xIn m c (.a 2) S2 ∗ xRest m c (.a 2) S2)
        ∗ (xIn m c (.a 3) S3 ∗ xRest m c (.a 3) S3) ∗ (xIn m c .ag S4 ∗ xRest m c .ag S4)) := by
  have ht : (xM.view.loc (c : Thread nD τ) ↦{fullShare} X m c : sProp 𝕄) ⊣⊢ _ := Transfers.pointsTo_toks fullShare 5
  have hs : ∀ (q : PosShare TreeShare) (S : Finset S1x1024x1024.Idx), (xM.view.loc (c : Thread nD τ) ↦{q} X m c : sProp 𝕄) ⊣⊢ _ :=
    fun q S => pointsTo_split_subset (ℓ := xM.view.loc (c : Thread nD τ)) (Finset.subset_univ S)
  unfold xL xIn xRest qS
  refine BiEntails.trans ht (sep_congr BiEntails.rfl ?_)
  rw [bigSep_univ_eq_bigSepL [0, 1, 2, 3, 4] (by decide) (by decide),
    bigSepL_cons_cons, bigSepL_cons_cons, bigSepL_cons_cons, bigSepL_cons_cons, bigSepL_singleton]
  exact sep_congr (hs _ S0) (sep_congr (hs _ S1) (sep_congr (hs _ S2) (sep_congr (hs _ S3) (hs _ S4))))

end Slots

end Cert.KernelIdealProof

end
-- ==== Proof.IParts.lean ====
/-
# The parts of the body

The first ten parts of the body: the barrier, and the transfers that are sent and awaited before the first sum. Each theorem says
what a part needs and what it leaves.
-/
module

public import proofs.«01_k».proof.Proof.ISlots

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop shareTok)
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (K : Dev nD × Ck → ℕ) (c : Dev nD)

/-- A function of the body's memrefs and semaphores at this launch's. -/
abbrev onBufs {β : Type _} (f : (arg0 : Memref sig .tc .vmem S1x1024x1024 .f32) → arg0.IsWhole → (arg1 : Memref sig .tc .vmem S1024x512 .f32) → arg1.IsWhole
    → (arg2 : Memref sig .tc .vmem S256x512 .f32) → arg2.IsWhole → (arg3 : Memref sig .tc .vmem S104x512 .f32) → arg3.IsWhole
    → (arg4 : Memref sig .tc .vmem S256x512 .f32) → arg4.IsWhole → (arg5 : Memref sig .tc .vmem S72x512 .f32) → arg5.IsWhole
    → (arg6 : Memref sig .tc .vmem S256x512 .f32) → arg6.IsWhole → (arg7 : Memref sig .tc .vmem S80x512 .f32) → arg7.IsWhole
    → DmaSems sig S5 → DmaSems sig S5 → DmaSems sig S5 → DmaSems sig S5 → DmaSems sig S5 → DmaSems sig S5 → β) : β :=
  f xM (Memref.isWhole_whole _) oM (Memref.isWhole_whole _) xoM (Memref.isWhole_whole _) xgM (Memref.isWhole_whole _)
    yoM (Memref.isWhole_whole _) ygM (Memref.isWhole_whole _) zoM (Memref.isWhole_whole _) zgM (Memref.isWhole_whole _)
    cc0_scratch6 cc0_scratch7 cc0_scratch8 cc0_scratch9 cc0_scratch10 cc0_scratch11

/-- What a device owes once its first `n` payments are made. -/
abbrev OweN (c : Dev nD) (n : ℕ) : sProp 𝕄 := Owe c (allIt.drop n)

/-- What a device needs to make transfer `t`, besides what it reads; -/
def SndH (t : T) (c : Dev nD) : sProp 𝕄 := iprop(SndI (F := F) t c ∗ slotAny (F := F) t (tgt t c))
/-- to signal the neighbour on leg `i`. -/
def Sig (i : Fin 3) (c : Dev nD) : sProp 𝕄 := iprop(dutyTok ER (barCell (nb i c)) 0 i ∗ legSlots (F := F) i c)

section Steps

/-- The end of a part. -/
theorem done {α : Type} {Q : α → sProp 𝕄} (a : α) : Q a ⊢ WP c (.ret a) Q := by
  unfold WP
  rw [wp_ret]
  iintro H
  imodintro
  iexact H

/-- The steps, premise by premise: a signal to a neighbour's barrier, -/
theorem sgn {α : Type} {Q : α → sProp 𝕄} {k : PUnit → Prog (TpuEff nD τ sig (Elt F) Λ₀ .tc) α}
    (n : Dev nD) (i : Fin 3) (hn : n = nb i c) (p q : ℕ) (hp : allIt.drop p = .inl i :: allIt.drop q) {k' : ℕ} (hk : 1 = k') :
    Ctx m K ⊢ iprop(OweN c p -∗ Sig (F := F) i c -∗ (OweN c q -∗ WP c (k ⟨⟩) Q)
      -∗ WP c (.op (.semSignal ((n : Thread nD τ)) barS k') k) Q) := by
  unfold Sig OweN
  rw [hp]
  iintro HC HO ⟨Ht, Hs⟩
  iapply (signal_step m K c n i hn (allIt.drop q) hk)
  isplitl [HC]; · iexact HC
  isplitl [HO]; · iexact HO
  isplitl [Ht] <;> iassumption

/-- a send, -/
theorem snd {α : Type} {Q : α → sProp 𝕄} {k : PUnit → Prog (TpuEff nD τ sig (Elt F) Λ₀ .tc) α}
    (t : T) (n : Dev nD) (hn : n = tgt t c) (p q : ℕ) (hp : allIt.drop p = .inr t :: allIt.drop q) {hsc : (dstM t).view.ref.isScScratch = false}
    {hsrc : (srcM t c).view.WordExact} {hdst : (dstM t).view.WordExact}
    {hsem : DmaTarget.Typed .vmem (.dma (recvS t)) (.remote (Dev.tc n : Thread nD τ) (dstM t) (.dma (sendS t)) hsc)} :
    Ctx m K ⊢ iprop(OweN c p -∗ SndH (F := F) t c -∗ srcPts m t c -∗ ((OweN c q ∗ SndF (F := F) t c) -∗ WP c (k ⟨⟩) Q)
      -∗ WP c (.op (.enqueueDma (srcM t c) (.remote (Dev.tc n : Thread nD τ) (dstM t) (.dma (sendS t)) hsc) (.dma (recvS t)) hsrc hdst hsem) k) Q) := by
  unfold SndH OweN
  rw [hp]
  iintro HC HO ⟨Hi, Hs⟩ Hp
  iapply (send_step m K c t n hn (allIt.drop q))
  isplitl [HC]; · iexact HC
  isplitl [HO]; · iexact HO
  isplitl [Hi]; · iexact Hi
  isplitl [Hp] <;> iassumption

/-- the wait for what lands here, -/
theorem rcv {α : Type} {Q : α → sProp 𝕄} {k : PUnit → Prog (TpuEff nD τ sig (Elt F) Λ₀ .tc) α}
    (t : T) (p : ℕ) (hl : ∀ x ∈ allIt.drop p, lvT t < lvI x) {sp : Space} {s : Shape} {e : EltTy}
    {src : Memref sig .tc sp s e} {hsrc : src.view.WordExact} {hdst : (dstM t).view.WordExact} :
    Ctx m K ⊢ iprop(OweN c p -∗ RcvI (F := F) t c -∗ ((OweN c p ∗ recvDone t c ∗ slotQ m fullShare t c) -∗ WP c (k ⟨⟩) Q)
      -∗ WP c (.op (.waitDma2 (recvS t) src (dstM t) hsrc hdst) k) Q) := by
  iintro HC HO Hi
  iapply (recv_step m K c t (allIt.drop p) hl)
  isplitl [HC]; · iexact HC
  isplitl [HO] <;> iassumption

/-- A transfer's amount is that of its shape, whichever buffer it ends in. -/
theorem credit {sp sp' : Space} {s : Shape} {e : EltTy} (v : View sig .tc sp s e) (v' : View sig .tc sp' s e) : v.dmaCredit = v'.dmaCredit := rfl

/-- and the wait for what was sent from here. -/
theorem snt {α : Type} {Q : α → sProp 𝕄} {k : PUnit → Prog (TpuEff nD τ sig (Elt F) Λ₀ .tc) α}
    (t : T) {sp sp' : Space} {s s' : Shape} {e e' : EltTy}
    {src : Memref sig .tc sp s e} {dst : Memref sig .tc sp' s' e'} {hsrc : src.view.WordExact} {hdst : dst.view.WordExact}
    (hs : s' = shp t) (he : e' = .f32) :
    Ctx m K ⊢ iprop(OweN c 18 -∗ SndF (F := F) t c -∗ ((OweN c 18 ∗ sendDone t c ∗ srcPts m t c) -∗ WP c (k ⟨⟩) Q)
      -∗ WP c (.op (.waitDma2 (sendS t) src dst hsrc hdst) k) Q) := by
  subst hs he
  unfold OweN
  rw [show allIt.drop 18 = [] from rfl]
  iintro HC HO Hi
  iapply (sent_step m K c t (credit dst.view (dstM t).view))
  isplitl [HC]; · iexact HC
  isplitl [HO] <;> iassumption

end Steps

section Parts

/-- Signals to the partner and to the `y` neighbour. -/
theorem wp_part1 {Q} : iprop(Ctx m K ∗ OweN c 0 ∗ Sig (F := F) 0 c ∗ Sig (F := F) 1 c)
    ⊢ iprop((∀ w1 w2 w3 w4 w5 w6 w7 w8 w9, OweN c 2 -∗ Q ⟨c, w1, w2, w3, w4, w5, w6, w7, w8, SemArray.scalar (sig.barrier 0 rfl), w9⟩)
        -∗ WP c (onBufs (k0_part1 (F := F))) Q) := by
  rw [k0_part1_eq_skeleton]
  unfold k0_part1_skel
  simp only [semSignalWord, semWaitWord, Prog.lift, Prog.bind_op, Prog.bind_ret, Prog.pure_eq_ret, wp_deviceId]
  iintro ⟨#HC, HO, H0, H1⟩ Hk
  iapply (sgn m K c ⟨k0_dev1 c, k0_dev1_lt c⟩ 0 (by revert c; decide +kernel) 0 1 rfl rfl) $$ HC HO H0; iintro HO
  iapply (sgn m K c ⟨k0_dev2 c, k0_dev2_lt c⟩ 1 (by revert c; decide +kernel) 1 2 rfl rfl) $$ HC HO H1; iintro HO
  iapply (done c _)
  iapply Hk
  iexact HO

/-- The signal to the `z` neighbour, and the wait for all three. -/
theorem wp_part2 {Q} (w1 w2 w3 w4 w5 w6 w7 w8) : iprop(Ctx m K ∗ OweN c 2 ∗ Sig (F := F) 2 c ∗ BarI (F := F) c)
    ⊢ iprop((∀ v1 v2 v3 v4 v5 v6 v7, (OweN c 3 ∗ barDone c ∗ barPay (F := F) 0 c ∗ barPay (F := F) 1 c ∗ barPay (F := F) 2 c)
          -∗ Q ⟨v1, v2, v3, v4, v5, v6, v7⟩)
        -∗ WP c (onBufs (k0_part2 (F := F)) c w1 w2 w3 w4 w5 w6 w7 (SemArray.scalar (sig.barrier 0 rfl)) w8) Q) := by
  rw [k0_part2_eq_skeleton]
  unfold k0_part2_skel
  simp only [semSignalWord, semWaitWord, Prog.lift, Prog.bind_op, Prog.bind_ret, Prog.pure_eq_ret]
  iintro ⟨#HC, HO, H2, Hb⟩ Hk
  iapply (sgn m K c ⟨k0_dev3 c, k0_dev3_lt c⟩ 2 (by revert c; decide +kernel) 2 3 rfl rfl) $$ HC HO H2; iintro HO
  iapply (barwait_step m K c (allIt.drop 3) (by decide) rfl) $$ [HO Hb]
  · isplitr; · iexact HC
    isplitl [HO] <;> iassumption
  iintro H
  iapply (done c _)
  iapply Hk
  iexact H

/-- The first two pieces to the partner. -/
theorem wp_part3 {Q} (w1 w2 w3 w4 w5 w6) : iprop(Ctx m K ∗ OweN c 3 ∗ (SndH (F := F) (.a 2) c ∗ srcPts m (.a 2) c) ∗ (SndH (F := F) (.a 1) c ∗ srcPts m (.a 1) c))
    ⊢ iprop(((OweN c 5 ∗ SndF (F := F) (.a 2) c ∗ SndF (F := F) (.a 1) c) -∗ Q ⟨⟩) -∗ WP c (onBufs (k0_part3 (F := F)) c w1 w2 w3 w4 w5 w6) Q) := by
  rw [k0_part3_eq_skeleton]
  unfold k0_part3_skel
  simp only [Prog.lift, Prog.bind_op, Prog.bind_ret, Prog.pure_eq_ret]
  iintro ⟨#HC, HO, ⟨H2, P2⟩, ⟨H1, P1⟩⟩ Hk
  iapply (snd m K c (.a 2) ⟨k0_dev4 c, k0_dev4_lt c⟩ (by revert c; decide +kernel) 3 4 rfl) $$ HC HO H2 P2; iintro ⟨HO, F2⟩
  iapply (snd m K c (.a 1) ⟨k0_dev5 c, k0_dev5_lt c⟩ (by revert c; decide +kernel) 4 5 rfl) $$ HC HO H1 P1; iintro ⟨HO, F1⟩
  iapply (done c _)
  iapply Hk
  isplitl [HO]; · iexact HO
  isplitl [F2] <;> iassumption

/-- The other three. -/
theorem wp_part4 {Q} (w1 w2 w3 w4) : iprop(Ctx m K ∗ OweN c 5 ∗ (SndH (F := F) (.a 3) c ∗ srcPts m (.a 3) c) ∗ (SndH (F := F) (.a 0) c ∗ srcPts m (.a 0) c)
      ∗ (SndH (F := F) .ag c ∗ srcPts m .ag c))
    ⊢ iprop(((OweN c 8 ∗ SndF (F := F) (.a 3) c ∗ SndF (F := F) (.a 0) c ∗ SndF (F := F) .ag c) -∗ Q ⟨⟩) -∗ WP c (onBufs (k0_part4 (F := F)) c w1 w2 w3 w4) Q) := by
  rw [k0_part4_eq_skeleton]
  unfold k0_part4_skel
  simp only [Prog.lift, Prog.bind_op, Prog.bind_ret, Prog.pure_eq_ret]
  iintro ⟨#HC, HO, ⟨H3, P3⟩, ⟨H0, P0⟩, ⟨H4, P4⟩⟩ Hk
  iapply (snd m K c (.a 3) ⟨k0_dev6 c, k0_dev6_lt c⟩ (by revert c; decide +kernel) 5 6 rfl) $$ HC HO H3 P3; iintro ⟨HO, F3⟩
  iapply (snd m K c (.a 0) ⟨k0_dev7 c, k0_dev7_lt c⟩ (by revert c; decide +kernel) 6 7 rfl) $$ HC HO H0 P0; iintro ⟨HO, F0⟩
  iapply (snd m K c .ag ⟨k0_dev8 c, k0_dev8_lt c⟩ (by revert c; decide +kernel) 7 8 rfl) $$ HC HO H4 P4; iintro ⟨HO, F4⟩
  iapply (done c _)
  iapply Hk
  isplitl [HO]; · iexact HO
  isplitl [F3]; · iexact F3
  isplitl [F0] <;> iassumption

/-- The partner's piece 2 lands and goes on to both neighbours. -/
theorem wp_part5 {Q} (w1 w2 w3 w4 w5 w6) : iprop(Ctx m K ∗ OweN c 8 ∗ RcvI (F := F) (.a 2) c ∗ SndH (F := F) (.b 2) c ∗ SndH (F := F) (.d 2) c)
    ⊢ iprop((∀ v, (OweN c 10 ∗ recvDone (.a 2) c ∗ slotQ m fullShare.right (.a 2) c ∗ SndF (F := F) (.b 2) c ∗ SndF (F := F) (.d 2) c) -∗ Q v)
        -∗ WP c (onBufs (k0_part5 (F := F)) c w1 w2 w3 w4 w5 w6) Q) := by
  rw [k0_part5_eq_skeleton]
  unfold k0_part5_skel
  simp only [Prog.lift, Prog.bind_op, Prog.bind_ret, Prog.pure_eq_ret]
  iintro ⟨#HC, HO, HR, HB, HD⟩ Hk
  iapply (rcv m K c (.a 2) 8 (by decide)) $$ HC HO HR; iintro ⟨HO, Hz, Hs⟩
  ihave Hs := (pass_a m c 2).1 $$ Hs
  icases Hs with ⟨PB, PD, Hs⟩
  iapply (snd m K c (.b 2) ⟨k0_dev9 c, k0_dev9_lt c⟩ (by revert c; decide +kernel) 8 9 rfl) $$ HC HO HB PB; iintro ⟨HO, FB⟩
  iapply (snd m K c (.d 2) ⟨k0_dev10 c, k0_dev10_lt c⟩ (by revert c; decide +kernel) 9 10 rfl) $$ HC HO HD PD; iintro ⟨HO, FD⟩
  iapply (done c _)
  iapply Hk
  isplitl [HO]; · iexact HO
  isplitl [Hz]; · iexact Hz
  isplitl [Hs]; · iexact Hs
  isplitl [FB] <;> iassumption

/-- Piece 1. -/
theorem wp_part6 {Q} (w1 w2 w3 w4 w5 w6) : iprop(Ctx m K ∗ OweN c 10 ∗ RcvI (F := F) (.a 1) c ∗ SndH (F := F) (.b 1) c ∗ SndH (F := F) (.d 1) c)
    ⊢ iprop(((OweN c 12 ∗ recvDone (.a 1) c ∗ slotQ m fullShare.right (.a 1) c ∗ SndF (F := F) (.b 1) c ∗ SndF (F := F) (.d 1) c) -∗ Q ⟨⟩)
        -∗ WP c (onBufs (k0_part6 (F := F)) c w1 w2 w3 w4 w5 w6) Q) := by
  rw [k0_part6_eq_skeleton]
  unfold k0_part6_skel
  simp only [Prog.lift, Prog.bind_op, Prog.bind_ret, Prog.pure_eq_ret]
  iintro ⟨#HC, HO, HR, HB, HD⟩ Hk
  iapply (rcv m K c (.a 1) 10 (by decide)) $$ HC HO HR; iintro ⟨HO, Hz, Hs⟩
  ihave Hs := (pass_a m c 1).1 $$ Hs
  icases Hs with ⟨PB, PD, Hs⟩
  iapply (snd m K c (.b 1) ⟨k0_dev11 c, k0_dev11_lt c⟩ (by revert c; decide +kernel) 10 11 rfl) $$ HC HO HB PB; iintro ⟨HO, FB⟩
  iapply (snd m K c (.d 1) ⟨k0_dev12 c, k0_dev12_lt c⟩ (by revert c; decide +kernel) 11 12 rfl) $$ HC HO HD PD; iintro ⟨HO, FD⟩
  iapply (done c _)
  iapply Hk
  isplitl [HO]; · iexact HO
  isplitl [Hz]; · iexact Hz
  isplitl [Hs]; · iexact Hs
  isplitl [FB] <;> iassumption

/-- Piece 3, to the `y` neighbour; -/
theorem wp_part7 {Q} (w1 w2 w3 w4 w5 w6) : iprop(Ctx m K ∗ OweN c 12 ∗ RcvI (F := F) (.a 3) c ∗ SndH (F := F) (.b 3) c)
    ⊢ iprop(((OweN c 13 ∗ recvDone (.a 3) c ∗ srcPts m (.d 3) c ∗ slotQ m fullShare.right (.a 3) c ∗ SndF (F := F) (.b 3) c) -∗ Q ⟨⟩)
        -∗ WP c (onBufs (k0_part7 (F := F)) c w1 w2 w3 w4 w5 w6) Q) := by
  rw [k0_part7_eq_skeleton]
  unfold k0_part7_skel
  simp only [Prog.lift, Prog.bind_op, Prog.bind_ret, Prog.pure_eq_ret]
  iintro ⟨#HC, HO, HR, HB⟩ Hk
  iapply (rcv m K c (.a 3) 12 (by decide)) $$ HC HO HR; iintro ⟨HO, Hz, Hs⟩
  ihave Hs := (pass_a m c 3).1 $$ Hs
  icases Hs with ⟨PB, PD, Hs⟩
  iapply (snd m K c (.b 3) ⟨k0_dev13 c, k0_dev13_lt c⟩ (by revert c; decide +kernel) 12 13 rfl) $$ HC HO HB PB; iintro ⟨HO, FB⟩
  iapply (done c _)
  iapply Hk
  isplitl [HO]; · iexact HO
  isplitl [Hz]; · iexact Hz
  isplitl [PD]; · iexact PD
  isplitl [Hs] <;> iassumption

/-- and to the `z` neighbour; piece 0, to the `y` neighbour; -/
theorem wp_part8 {Q} (w1 w2 w3 w4 w5) : iprop(Ctx m K ∗ OweN c 13 ∗ (SndH (F := F) (.d 3) c ∗ srcPts m (.d 3) c) ∗ RcvI (F := F) (.a 0) c ∗ SndH (F := F) (.b 0) c)
    ⊢ iprop((∀ v, (OweN c 15 ∗ SndF (F := F) (.d 3) c ∗ recvDone (.a 0) c ∗ srcPts m (.d 0) c ∗ slotQ m fullShare.right (.a 0) c ∗ SndF (F := F) (.b 0) c) -∗ Q v)
        -∗ WP c (onBufs (k0_part8 (F := F)) c w1 w2 w3 w4 w5) Q) := by
  rw [k0_part8_eq_skeleton]
  unfold k0_part8_skel
  simp only [Prog.lift, Prog.bind_op, Prog.bind_ret, Prog.pure_eq_ret]
  iintro ⟨#HC, HO, ⟨H3, P3⟩, HR, HB⟩ Hk
  iapply (snd m K c (.d 3) ⟨k0_dev14 c, k0_dev14_lt c⟩ (by revert c; decide +kernel) 13 14 rfl) $$ HC HO H3 P3; iintro ⟨HO, F3⟩
  iapply (rcv m K c (.a 0) 14 (by decide)) $$ HC HO HR; iintro ⟨HO, Hz, Hs⟩
  ihave Hs := (pass_a m c 0).1 $$ Hs
  icases Hs with ⟨PB, PD, Hs⟩
  iapply (snd m K c (.b 0) ⟨k0_dev15 c, k0_dev15_lt c⟩ (by revert c; decide +kernel) 14 15 rfl) $$ HC HO HB PB; iintro ⟨HO, FB⟩
  iapply (done c _)
  iapply Hk
  isplitl [HO]; · iexact HO
  isplitl [F3]; · iexact F3
  isplitl [Hz]; · iexact Hz
  isplitl [PD]; · iexact PD
  isplitl [Hs] <;> iassumption

/-- and to the `z` neighbour, whose pieces 1 and 2 have landed. -/
theorem wp_part9 {Q} (w1 w2 w3 w4) : iprop(Ctx m K ∗ OweN c 15 ∗ (SndH (F := F) (.d 0) c ∗ srcPts m (.d 0) c) ∗ RcvI (F := F) (.d 1) c ∗ RcvI (F := F) (.d 2) c)
    ⊢ iprop((∀ v, (OweN c 16 ∗ SndF (F := F) (.d 0) c ∗ (recvDone (.d 1) c ∗ slotQ m fullShare (.d 1) c) ∗ recvDone (.d 2) c ∗ slotQ m fullShare (.d 2) c) -∗ Q v)
        -∗ WP c (onBufs (k0_part9 (F := F)) c w1 w2 w3 w4) Q) := by
  rw [k0_part9_eq_skeleton]
  unfold k0_part9_skel
  simp only [Prog.lift, Prog.bind_op, Prog.bind_ret, Prog.pure_eq_ret]
  iintro ⟨#HC, HO, ⟨H0, P0⟩, H1, H2⟩ Hk
  iapply (snd m K c (.d 0) ⟨k0_dev16 c, k0_dev16_lt c⟩ (by revert c; decide +kernel) 15 16 rfl) $$ HC HO H0 P0; iintro ⟨HO, F0⟩
  iapply (rcv m K c (.d 1) 16 (by decide)) $$ HC HO H1; iintro ⟨HO, H1⟩
  iapply (rcv m K c (.d 2) 16 (by decide)) $$ HC HO H2; iintro ⟨HO, H2⟩
  iapply (done c _)
  iapply Hk
  isplitl [HO]; · iexact HO
  isplitl [F0]; · iexact F0
  isplitl [H1] <;> iassumption

/-- What landed from the `z` neighbour goes on to the `y` neighbour, whose pieces 2 and 3 have landed. -/
theorem wp_part10 {Q} (w1 w2 w3 w4) : iprop(Ctx m K ∗ OweN c 16 ∗ (SndH (F := F) .bg c ∗ srcPts m .bg c) ∗ RcvI (F := F) (.b 2) c ∗ RcvI (F := F) (.b 3) c)
    ⊢ iprop(((OweN c 17 ∗ SndF (F := F) .bg c ∗ (recvDone (.b 2) c ∗ slotQ m fullShare (.b 2) c) ∗ recvDone (.b 3) c ∗ slotQ m fullShare (.b 3) c) -∗ Q ⟨⟩)
        -∗ WP c (onBufs (k0_part10 (F := F)) c w1 w2 w3 w4) Q) := by
  rw [k0_part10_eq_skeleton]
  unfold k0_part10_skel
  simp only [Prog.lift, Prog.bind_op, Prog.bind_ret, Prog.pure_eq_ret]
  iintro ⟨#HC, HO, ⟨H0, P0⟩, H1, H2⟩ Hk
  iapply (snd m K c .bg ⟨k0_dev17 c, k0_dev17_lt c⟩ (by revert c; decide +kernel) 16 17 rfl) $$ HC HO H0 P0; iintro ⟨HO, F0⟩
  iapply (rcv m K c (.b 2) 17 (by decide)) $$ HC HO H1; iintro ⟨HO, H1⟩
  iapply (rcv m K c (.b 3) 17 (by decide)) $$ HC HO H2; iintro ⟨HO, H2⟩
  iapply (done c _)
  iapply Hk
  isplitl [HO]; · iexact HO
  isplitl [F0]; · iexact F0
  isplitl [H1] <;> iassumption

end Parts

end Cert.KernelIdealProof

end
-- ==== Proof.IAdds.lean ====
/-
# The sums

The parts of the body that add what has landed to the device's own rows: each reads a landing slot and the argument and
stores one band of the result. Each theorem says what a part needs and what it leaves.
-/
module

public import proofs.«01_k».proof.Proof.IParts

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop shareTok)
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (K : Dev nD × Ck → ℕ) (c : Dev nD)

/-! ## The offsets, band by band -/

/-- Where the sum of a piece from the partner reads the argument, -/
theorem off_a (k : Fin 4) : k0_off3 c (BitVec.ofNat 32 (64 * k.val)) = ![0, lo c (.a k), col c] := k0_off3_eq c k
/-- and where it writes the result; -/
theorem off_a' (k : Fin 4) : k0_off4 c (BitVec.ofNat 32 (64 * k.val)) = ![lo c (.a k), 0] := k0_off4_eq c k
/-- the same of a piece from the `z` neighbour, -/
theorem off_d (k : Fin 4) : k0_off7 c (BitVec.ofNat 32 (64 * k.val)) = ![0, lo c (.d k), col c] := by
  rw [k0_off7_eq]; revert c k; decide +kernel
/-- read and written; -/
theorem off_d' (k : Fin 4) : k0_off8 c (BitVec.ofNat 32 (64 * k.val)) = ![lo c (.d k), 0] := by
  rw [k0_off8_eq]; revert c k; decide +kernel
/-- of a piece from the `y` neighbour, -/
theorem off_b (k : Fin 4) : k0_off9 c (BitVec.ofNat 32 (64 * k.val)) = ![0, lo c (.b k), col c] := by
  rw [k0_off9_eq]; revert c k; decide +kernel
/-- read and written; -/
theorem off_b' (k : Fin 4) : k0_off10 c (BitVec.ofNat 32 (64 * k.val)) = ![lo c (.b k), 0] := by
  rw [k0_off10_eq]; revert c k; decide +kernel
/-- of the 104 rows, -/
theorem off_ag : k0_off5 c = ![0, lo c .ag, col c] := k0_off5_eq c
/-- read and written; -/
theorem off_ag' : k0_off6 c = ![lo c .ag, 0] := k0_off6_eq c
/-- of the 72 rows, -/
theorem off_bg : k0_off11 c = ![0, lo c .bg, col c] := by rw [k0_off11_eq]; revert c; decide +kernel
/-- read and written; -/
theorem off_bg' : k0_off12 c = ![lo c .bg, 0] := by rw [k0_off12_eq]; revert c; decide +kernel
/-- and of the 80 rows, -/
theorem off_dg : k0_off13 c = ![0, lo c .dg, col c] := by rw [k0_off13_eq]; revert c; decide +kernel
/-- read and written. -/
theorem off_dg' : k0_off14 c = ![lo c .dg, 0] := by rw [k0_off14_eq]; revert c; decide +kernel

/-- The rectangles of all of the corners' buffers. -/
abbrev xgW : Rect S104x512 := Rect.unit ![0, 0] S104x512.size (by decide)
abbrev ygW : Rect S72x512 := Rect.unit ![0, 0] S72x512.size (by decide)
abbrev zgW : Rect S80x512 := Rect.unit ![0, 0] S80x512.size (by decide)

section Bands

/-- A device's rows of a band, with what its slot holds added: the slot of a transfer is read, and its band written. -/
theorem band {α : Type} {Q : α → sProp 𝕄} {q : PosShare TreeShare} (l : List T) {k' : PUnit → Prog (TpuEff nD τ sig (Elt F) Λ₀ .tc) α} (t : T) {n : ℕ} (hn : ht t = n) {s : Shape} (M : Memref sig .tc .vmem s .f32) (r : Rect s) (hr : r.shape = ⟨2, ![n, 512]⟩)
    {S : Finset (Idx ((M.access r).loc (c : Thread nD τ)))} {f : Buf (Elt F) ((M.access r).loc (c : Thread nD τ))}
    (hs : slotQ m q t c = ((M.access r).loc (c : Thread nD τ) ↦[S]{q} f)) (hS : (M.access r).set ⊆ S)
    (ho : Other m c (lo c t) (n := n) (hr ▸ (M.access r).read (Elt F) f))
    {off : Fin 3 → ℕ} {inb} (hoff : off = ![0, lo c t, col c]) (hc) {off' : Fin 2 → ℕ} {inb'} (hoff' : off' = ![lo c t, 0])
    {hl} {hx} {hy} {hz} {hm} {pay : (r.shape.Idx → Elt F .f32) → ((⟨3, ![1, n, 512]⟩ : Shape).Idx → Elt F .f32) → ((⟨2, ![n, 512]⟩ : Shape).Idx → Elt F .f32)}
    (hp : ∀ v w, pay v w = addf (shapeCast ⟨2, ![n, 512]⟩ w hc) (hr ▸ v)) :
    slotQ m q t c
      ⊢ iprop(xL m c -∗ OutB m c l -∗ ((slotQ m q t c ∗ xL m c ∗ OutB m c (t :: l)) -∗ WP c (k' ⟨⟩) Q)
          -∗ WP c (.op (.load M r.toLoadRect hl) fun v =>
              .op (.load xM (Rect.unit (s := S1x1024x1024) off (⟨3, ![1, n, 512]⟩ : Shape).size inb).toLoadRect hx) fun w =>
              .op (.load oM (Rect.unit (s := S1024x512) off' (⟨2, ![n, 512]⟩ : Shape).size inb').toLoadRect hy) fun _ =>
              .op (.store oM (Rect.unit (s := S1024x512) off' (⟨2, ![n, 512]⟩ : Shape).size inb') (pay v w) Finset.univ hz hm) k') Q) := by
  subst hn
  rw [hs]
  iintro Hs Hx Ho Hk
  iapply (add m c M r hr hS (lo c t) (lo_le c t) ho hoff hc hoff' (l.map fun t => (lo c t, ht t)) hp) $$ [Hs Hx Ho]
  · isplitl [Hs]; · iexact Hs
    isplitl [Hx] <;> iassumption
  iintro H
  iapply Hk
  iexact H

/-- The first two loads of that, for a band the body stores later. -/
theorem half {α : Type} {Q : α → sProp 𝕄} {q : PosShare TreeShare} (t : T) {n : ℕ} (hn : ht t = n) {s : Shape} (M : Memref sig .tc .vmem s .f32) (r : Rect s) (hr : r.shape = ⟨2, ![n, 512]⟩)
    {S : Finset (Idx ((M.access r).loc (c : Thread nD τ)))} {f : Buf (Elt F) ((M.access r).loc (c : Thread nD τ))}
    (hs : slotQ m q t c = ((M.access r).loc (c : Thread nD τ) ↦[S]{q} f)) (hS : (M.access r).set ⊆ S)
    (ho : Other m c (lo c t) (n := n) (hr ▸ (M.access r).read (Elt F) f))
    {off : Fin 3 → ℕ} {inb} (hoff : off = ![0, lo c t, col c]) (hc)
    {hl} {hx} {k : (r.shape.Idx → Elt F .f32) → ((⟨3, ![1, n, 512]⟩ : Shape).Idx → Elt F .f32) → Prog (TpuEff nD τ sig (Elt F) Λ₀ .tc) α} :
    slotQ m q t c
      ⊢ iprop(xL m c -∗ (∀ v w, ⌜Good m c (lo c t) (n := n) (addf (shapeCast ⟨2, ![n, 512]⟩ w hc) (hr ▸ v))⌝
            -∗ (slotQ m q t c ∗ xL m c) -∗ WP c (k v w) Q)
          -∗ WP c (.op (.load M r.toLoadRect hl) fun v =>
              .op (.load xM (Rect.unit (s := S1x1024x1024) off (⟨3, ![1, n, 512]⟩ : Shape).size inb).toLoadRect hx) fun w => k v w) Q) := by
  subst hn
  rw [hs]
  iintro Hs Hx Hk
  iapply (look m c M r hr hS (lo c t) (lo_le c t) ho off inb hoff hc) $$ [Hs Hx]
  · isplitl [Hs] <;> iassumption
  iexact Hk

/-- The store of such a band. -/
theorem late {α : Type} {Q : α → sProp 𝕄} (l : List T) {k' : PUnit → Prog (TpuEff nD τ sig (Elt F) Λ₀ .tc) α} (t : T) {n : ℕ} (hn : ht t = n) {off : Fin 2 → ℕ} {inb} (hoff : off = ![lo c t, 0])
    {w : (⟨2, ![n, 512]⟩ : Shape).Idx → Elt F .f32} (hw : Good m c (lo c t) w) {hx} {hm} :
    OutB m c l ⊢ iprop((OutB m c (t :: l) -∗ WP c (k' ⟨⟩) Q)
      -∗ WP c (.op (.store oM (Rect.unit (s := S1024x512) off (⟨2, ![n, 512]⟩ : Shape).size inb) w Finset.univ hx hm) k') Q) := by
  subst hn
  exact store_step m c (l.map fun t => (lo c t, ht t)) (lo c t) off inb hoff w hw

end Bands

section Parts

/-- The last corner send, and the first two bands. -/
theorem wp_part11 {Q} (w1 w2 w3 w4 w5) : iprop(Ctx m K ∗ OweN c 17 ∗ (SndH (F := F) .dg c ∗ srcPts m .dg c)
      ∗ slotQ m fullShare.right (.a 0) c ∗ slotQ m fullShare.right (.a 1) c ∗ slotQ m fullShare.right (.a 2) c ∗ xL m c ∗ OutB m c [])
    ⊢ iprop((∀ v, ⌜Good m c (lo c (.a 2)) (n := 64) v⌝ -∗ (OweN c 18 ∗ SndF (F := F) .dg c
          ∗ slotQ m fullShare.right (.a 0) c ∗ slotQ m fullShare.right (.a 1) c ∗ slotQ m fullShare.right (.a 2) c ∗ xL m c ∗ OutB m c [.a 1, .a 0]) -∗ Q v)
        -∗ WP c (onBufs (k0_part11 (F := F)) c w1 w2 w3 w4 w5) Q) := by
  rw [k0_part11_eq_skeleton]
  unfold k0_part11_skel
  simp only [Prog.lift, Prog.bind_op, Prog.bind_ret, Prog.pure_eq_ret]
  iintro ⟨#HC, HO, ⟨H0, P0⟩, S0, S1, S2, Hx, Hv⟩ Hk
  iapply (snd m K c .dg ⟨k0_dev18 c, k0_dev18_lt c⟩ (by revert c; decide +kernel) 17 18 rfl) $$ HC HO H0 P0; iintro ⟨HO, F0⟩
  iapply (band m c [] (.a 0) (n := 64) rfl xoM (blkR 0) rfl rfl (Finset.Subset.refl _) (other_a m c 0) (off_a c 0) shapeCasts_S1x64x512_S64x512 (off_a' c 0) (pay := k0_pay1) (fun _ _ => rfl)) $$ S0 Hx Hv; iintro ⟨S0, Hx, Hv⟩
  iapply (band m c _ (.a 1) (n := 64) rfl xoM (blkR 1) rfl rfl (Finset.Subset.refl _) (other_a m c 1) (off_a c 1) shapeCasts_S1x64x512_S64x512 (off_a' c 1) (pay := k0_pay2) (fun _ _ => rfl)) $$ S1 Hx Hv; iintro ⟨S1, Hx, Hv⟩
  iapply (half m c (.a 2) (n := 64) rfl xoM (blkR 2) rfl rfl (Finset.Subset.refl _) (other_a m c 2) (off_a c 2) shapeCasts_S1x64x512_S64x512) $$ S2 Hx; iintro %v %w %hg ⟨S2, Hx⟩
  iapply (done c _)
  iapply Hk $$ %(k0_pay3 v w) %hg
  isplitl [HO]; · iexact HO
  isplitl [F0]; · iexact F0
  isplitl [S0]; · iexact S0
  isplitl [S1]; · iexact S1
  isplitl [S2]; · iexact S2
  isplitl [Hx] <;> iassumption

/-- Two more bands of the block the partner sent, and the partner's corner. -/
theorem wp_part12 {Q} (w1 w2 w3 w4 w5 w6 w7 v0) (h0 : Good m c (lo c (.a 2)) (n := 64) v0) : iprop(Ctx m K ∗ OweN c 18 ∗ RcvI (F := F) .ag c
      ∗ slotQ m fullShare.right (.a 3) c ∗ slotQ m fullShare.right (.d 1) c ∗ xL m c ∗ OutB m c [.a 1, .a 0])
    ⊢ iprop((∀ x v, ⌜Good m c (lo c (.d 1)) (n := 64) v⌝ -∗ (OweN c 18 ∗ (recvDone .ag c ∗ slotQ m fullShare .ag c)
          ∗ slotQ m fullShare.right (.a 3) c ∗ slotQ m fullShare.right (.d 1) c ∗ xL m c ∗ OutB m c [.ag, .a 3, .a 2, .a 1, .a 0]) -∗ Q ⟨x, v⟩)
        -∗ WP c (onBufs (k0_part12 (F := F)) c w1 w2 w3 w4 w5 w6 w7 v0) Q) := by
  rw [k0_part12_eq_skeleton]
  unfold k0_part12_skel
  simp only [Prog.lift, Prog.bind_op, Prog.bind_ret, Prog.pure_eq_ret]
  iintro ⟨#HC, HO, H0, S0, S1, Hx, Hv⟩ Hk
  iapply (outload_step m c _) $$ Hv; iintro %u Hv
  iapply (late m c _ (.a 2) (n := 64) rfl (off_a' c 2) h0) $$ Hv; iintro Hv
  iapply (band m c _ (.a 3) (n := 64) rfl xoM (blkR 3) rfl rfl (Finset.Subset.refl _) (other_a m c 3) (off_a c 3) shapeCasts_S1x64x512_S64x512 (off_a' c 3)
    (pay := k0_pay4) (fun _ _ => rfl)) $$ S0 Hx Hv; iintro ⟨S0, Hx, Hv⟩
  iapply (rcv m K c .ag 18 (by decide)) $$ HC HO H0; iintro ⟨HO, H0, G0⟩
  iapply (band m c _ .ag (n := 104) rfl xgM xgW rfl rfl (View.set_slice_subset _ _) (other_ag m c _) (off_ag c) shapeCasts_S1x104x512_S104x512 (off_ag' c)
    (pay := k0_pay5) (fun _ _ => rfl)) $$ G0 Hx Hv; iintro ⟨G0, Hx, Hv⟩
  iapply (half m c (.d 1) (n := 64) rfl zoM (blkR 1) rfl rfl (Finset.Subset.refl _) (other_d m c 1) (off_d c 1) shapeCasts_S1x64x512_S64x512) $$ S1 Hx
  iintro %v %w %hg ⟨S1, Hx⟩
  iapply (done c _)
  iapply Hk $$ %_ %(k0_pay6 v w) %hg
  isplitl [HO]; · iexact HO
  isplitl [H0 G0]; · isplitl [H0] <;> iassumption
  isplitl [S0]; · iexact S0
  isplitl [S1]; · iexact S1
  isplitl [Hx] <;> iassumption

/-- Bands of what the `z` and the `y` neighbour passed on. -/
theorem wp_part13 {Q} (w1 w2 w3 w4 w5 w6 w7 v0) (h0 : Good m c (lo c (.d 1)) (n := 64) v0) : iprop(slotQ m fullShare.right (.d 2) c ∗ slotQ m fullShare.right (.b 2) c ∗ slotQ m fullShare.right (.b 3) c ∗ xL m c ∗ OutB m c [.ag, .a 3, .a 2, .a 1, .a 0])
    ⊢ iprop((∀ x y, (slotQ m fullShare.right (.d 2) c ∗ slotQ m fullShare.right (.b 2) c ∗ slotQ m fullShare.right (.b 3) c ∗ xL m c ∗ OutB m c [.b 3, .b 2, .d 2, .d 1, .ag, .a 3, .a 2, .a 1, .a 0]) -∗ Q ⟨x, y⟩)
        -∗ WP c (onBufs (k0_part13 (F := F)) c w1 w2 w3 w4 w5 w6 w7 v0) Q) := by
  rw [k0_part13_eq_skeleton]
  unfold k0_part13_skel
  simp only [Prog.lift, Prog.bind_op, Prog.bind_ret, Prog.pure_eq_ret]
  iintro ⟨S0, S1, S2, Hx, Hv⟩ Hk
  iapply (outload_step m c _) $$ Hv; iintro %u Hv
  iapply (late m c _ (.d 1) (n := 64) rfl (off_d' c 1) h0) $$ Hv; iintro Hv
  iapply (band m c _ (.d 2) (n := 64) rfl zoM (blkR 2) rfl rfl (Finset.Subset.refl _) (other_d m c 2) (off_d c 2) shapeCasts_S1x64x512_S64x512 (off_d' c 2)
    (pay := k0_pay7) (fun _ _ => rfl)) $$ S0 Hx Hv; iintro ⟨S0, Hx, Hv⟩
  iapply (band m c _ (.b 2) (n := 64) rfl yoM (blkR 2) rfl rfl (Finset.Subset.refl _) (other_b m c 2) (off_b c 2) shapeCasts_S1x64x512_S64x512 (off_b' c 2)
    (pay := k0_pay8) (fun _ _ => rfl)) $$ S1 Hx Hv; iintro ⟨S1, Hx, Hv⟩
  iapply (band m c _ (.b 3) (n := 64) rfl yoM (blkR 3) rfl rfl (Finset.Subset.refl _) (other_b m c 3) (off_b c 3) shapeCasts_S1x64x512_S64x512 (off_b' c 3)
    (pay := k0_pay9) (fun _ _ => rfl)) $$ S2 Hx Hv; iintro ⟨S2, Hx, Hv⟩
  iapply (done c _)
  iapply Hk
  isplitl [S0]; · iexact S0
  isplitl [S1]; · iexact S1
  isplitl [S2]; · iexact S2
  isplitl [Hx] <;> iassumption

/-- Two more of them, waited for here; the second is stored by the next part. -/
theorem wp_part14 {Q} (w1 w2 w3 w4 w5 w6 w7 w8) : iprop(Ctx m K ∗ OweN c 18 ∗ RcvI (F := F) (.b 1) c ∗ RcvI (F := F) (.d 3) c ∗ xL m c ∗ OutB m c [.b 3, .b 2, .d 2, .d 1, .ag, .a 3, .a 2, .a 1, .a 0])
    ⊢ iprop((∀ v, ⌜Good m c (lo c (.d 3)) (n := 64) v⌝ -∗ (OweN c 18 ∗ (recvDone (.b 1) c ∗ slotQ m fullShare (.b 1) c)
          ∗ (recvDone (.d 3) c ∗ slotQ m fullShare (.d 3) c) ∗ xL m c ∗ OutB m c [.b 1, .b 3, .b 2, .d 2, .d 1, .ag, .a 3, .a 2, .a 1, .a 0]) -∗ Q v)
        -∗ WP c (onBufs (k0_part14 (F := F)) c w1 w2 w3 w4 w5 w6 w7 w8) Q) := by
  rw [k0_part14_eq_skeleton]
  unfold k0_part14_skel
  simp only [Prog.lift, Prog.bind_op, Prog.bind_ret, Prog.pure_eq_ret]
  iintro ⟨#HC, HO, H0, H1, Hx, Hv⟩ Hk
  iapply (rcv m K c (.b 1) 18 (by decide)) $$ HC HO H0; iintro ⟨HO, H0, S0⟩
  iapply (band m c _ (.b 1) (n := 64) rfl yoM (blkR 1) rfl rfl (Finset.Subset.refl _) (other_b m c 1) (off_b c 1) shapeCasts_S1x64x512_S64x512 (off_b' c 1)
    (pay := k0_pay10) (fun _ _ => rfl)) $$ S0 Hx Hv; iintro ⟨S0, Hx, Hv⟩
  iapply (rcv m K c (.d 3) 18 (by decide)) $$ HC HO H1; iintro ⟨HO, H1, S1⟩
  iapply (half m c (.d 3) (n := 64) rfl zoM (blkR 3) rfl rfl (Finset.Subset.refl _) (other_d m c 3) (off_d c 3) shapeCasts_S1x64x512_S64x512) $$ S1 Hx
  iintro %v %w %hg ⟨S1, Hx⟩
  iapply (outload_step m c _) $$ Hv; iintro %u Hv
  iapply (done c _)
  iapply Hk $$ %(k0_pay11 v w) %hg
  isplitl [HO]; · iexact HO
  isplitl [H0 S0]; · isplitl [H0] <;> iassumption
  isplitl [H1 S1]; · isplitl [H1] <;> iassumption
  isplitl [Hx] <;> iassumption

/-- The store of that band, the last block of the `y` neighbour, and the wait for the last of the `z` neighbour. -/
theorem wp_part15 {Q} (w1 w2 w3 w4 w5 w6 w7 w8 v0) (h0 : Good m c (lo c (.d 3)) (n := 64) v0) : iprop(Ctx m K ∗ OweN c 18 ∗ RcvI (F := F) (.b 0) c ∗ RcvI (F := F) (.d 0) c ∗ xL m c ∗ OutB m c [.b 1, .b 3, .b 2, .d 2, .d 1, .ag, .a 3, .a 2, .a 1, .a 0])
    ⊢ iprop((∀ x, (OweN c 18 ∗ (recvDone (.b 0) c ∗ slotQ m fullShare (.b 0) c)
          ∗ (recvDone (.d 0) c ∗ slotQ m fullShare (.d 0) c) ∗ xL m c ∗ OutB m c [.b 0, .d 3, .b 1, .b 3, .b 2, .d 2, .d 1, .ag, .a 3, .a 2, .a 1, .a 0]) -∗ Q x)
        -∗ WP c (onBufs (k0_part15 (F := F)) c w1 w2 w3 w4 w5 w6 w7 w8 v0) Q) := by
  rw [k0_part15_eq_skeleton]
  unfold k0_part15_skel
  simp only [Prog.lift, Prog.bind_op, Prog.bind_ret, Prog.pure_eq_ret]
  iintro ⟨#HC, HO, H0, H1, Hx, Hv⟩ Hk
  iapply (late m c _ (.d 3) (n := 64) rfl (off_d' c 3) h0) $$ Hv; iintro Hv
  iapply (rcv m K c (.b 0) 18 (by decide)) $$ HC HO H0; iintro ⟨HO, H0, S0⟩
  iapply (band m c _ (.b 0) (n := 64) rfl yoM (blkR 0) rfl rfl (Finset.Subset.refl _) (other_b m c 0) (off_b c 0) shapeCasts_S1x64x512_S64x512 (off_b' c 0)
    (pay := k0_pay12) (fun _ _ => rfl)) $$ S0 Hx Hv; iintro ⟨S0, Hx, Hv⟩
  iapply (rcv m K c (.d 0) 18 (by decide)) $$ HC HO H1; iintro ⟨HO, H1, S1⟩
  iapply (done c _)
  iapply Hk
  isplitl [HO]; · iexact HO
  isplitl [H0 S0]; · isplitl [H0] <;> iassumption
  isplitl [H1 S1]; · isplitl [H1] <;> iassumption
  isplitl [Hx] <;> iassumption

/-- That block's band, and the `y` neighbour's corner. -/
theorem wp_part16 {Q} (w1 w2 w3 w4 w5 w6 w7 w8) : iprop(Ctx m K ∗ OweN c 18 ∗ RcvI (F := F) .bg c ∗ slotQ m fullShare (.d 0) c ∗ xL m c ∗ OutB m c [.b 0, .d 3, .b 1, .b 3, .b 2, .d 2, .d 1, .ag, .a 3, .a 2, .a 1, .a 0])
    ⊢ iprop(((OweN c 18 ∗ (recvDone .bg c ∗ slotQ m fullShare .bg c) ∗ slotQ m fullShare (.d 0) c ∗ xL m c ∗ OutB m c [.bg, .d 0, .b 0, .d 3, .b 1, .b 3, .b 2, .d 2, .d 1, .ag, .a 3, .a 2, .a 1, .a 0]) -∗ Q ⟨⟩)
        -∗ WP c (onBufs (k0_part16 (F := F)) c w1 w2 w3 w4 w5 w6 w7 w8) Q) := by
  rw [k0_part16_eq_skeleton]
  unfold k0_part16_skel
  simp only [Prog.lift, Prog.bind_op, Prog.bind_ret, Prog.pure_eq_ret]
  iintro ⟨#HC, HO, H0, S0, Hx, Hv⟩ Hk
  iapply (band m c _ (.d 0) (n := 64) rfl zoM (blkR 0) rfl rfl (Finset.Subset.refl _) (other_d m c 0) (off_d c 0) shapeCasts_S1x64x512_S64x512 (off_d' c 0)
    (pay := k0_pay13) (fun _ _ => rfl)) $$ S0 Hx Hv; iintro ⟨S0, Hx, Hv⟩
  iapply (rcv m K c .bg 18 (by decide)) $$ HC HO H0; iintro ⟨HO, H0, G0⟩
  iapply (band m c _ .bg (n := 72) rfl ygM ygW rfl rfl (View.set_slice_subset _ _) (other_bg m c _) (off_bg c) shapeCasts_S1x72x512_S72x512 (off_bg' c)
    (pay := k0_pay14) (fun _ _ => rfl)) $$ G0 Hx Hv; iintro ⟨G0, Hx, Hv⟩
  iapply (done c _)
  iapply Hk
  isplitl [HO]; · iexact HO
  isplitl [H0 G0]; · isplitl [H0] <;> iassumption
  isplitl [S0]; · iexact S0
  isplitl [Hx] <;> iassumption

/-- The `z` neighbour's corner, the last band; then the waits for three sends. -/
theorem wp_part17 {Q} (w1 w2) : iprop(Ctx m K ∗ OweN c 18 ∗ RcvI (F := F) .dg c ∗ xL m c ∗ OutB m c [.bg, .d 0, .b 0, .d 3, .b 1, .b 3, .b 2, .d 2, .d 1, .ag, .a 3, .a 2, .a 1, .a 0] ∗ SndF (F := F) (.a 2) c ∗ SndF (F := F) (.a 1) c ∗ SndF (F := F) (.a 3) c)
    ⊢ iprop(((OweN c 18 ∗ (recvDone .dg c ∗ slotQ m fullShare .dg c) ∗ xL m c ∗ OutB m c [.dg, .bg, .d 0, .b 0, .d 3, .b 1, .b 3, .b 2, .d 2, .d 1, .ag, .a 3, .a 2, .a 1, .a 0]
          ∗ (sendDone (.a 2) c ∗ srcPts m (.a 2) c) ∗ (sendDone (.a 1) c ∗ srcPts m (.a 1) c) ∗ (sendDone (.a 3) c ∗ srcPts m (.a 3) c)) -∗ Q ⟨⟩)
        -∗ WP c (onBufs (k0_part17 (F := F)) c w1 w2) Q) := by
  rw [k0_part17_eq_skeleton]
  unfold k0_part17_skel
  simp only [Prog.lift, Prog.bind_op, Prog.bind_ret, Prog.pure_eq_ret]
  iintro ⟨#HC, HO, HR, Hx, Hv, H0, H1, H2⟩ Hk
  iapply (rcv m K c .dg 18 (by decide)) $$ HC HO HR; iintro ⟨HO, HR, G0⟩
  iapply (band m c _ .dg (n := 80) rfl zgM zgW rfl rfl (View.set_slice_subset _ _) (other_dg m c _) (off_dg c) shapeCasts_S1x80x512_S80x512 (off_dg' c)
    (pay := k0_pay15) (fun _ _ => rfl)) $$ G0 Hx Hv; iintro ⟨G0, Hx, Hv⟩
  iapply (snt m K c (.a 2) rfl rfl) $$ HC HO H0; iintro ⟨HO, H0⟩
  iapply (snt m K c (.a 1) rfl rfl) $$ HC HO H1; iintro ⟨HO, H1⟩
  iapply (snt m K c (.a 3) rfl rfl) $$ HC HO H2; iintro ⟨HO, H2⟩
  iapply (done c _)
  iapply Hk
  isplitl [HO]; · iexact HO
  isplitl [HR G0]; · isplitl [HR] <;> iassumption
  isplitl [Hx]; · iexact Hx
  isplitl [Hv]; · iexact Hv
  isplitl [H0]; · iexact H0
  isplitl [H1] <;> iassumption

/-- The waits for five more sends. -/
theorem wp_part18 {Q} : iprop(Ctx m K ∗ OweN c 18 ∗ SndF (F := F) (.a 0) c ∗ SndF (F := F) (.b 2) c ∗ SndF (F := F) (.b 1) c ∗ SndF (F := F) (.b 3) c ∗ SndF (F := F) (.b 0) c)
    ⊢ iprop(((OweN c 18 ∗ (sendDone (.a 0) c ∗ srcPts m (.a 0) c) ∗ (sendDone (.b 2) c ∗ srcPts m (.b 2) c) ∗ (sendDone (.b 1) c ∗ srcPts m (.b 1) c) ∗ (sendDone (.b 3) c ∗ srcPts m (.b 3) c) ∗ (sendDone (.b 0) c ∗ srcPts m (.b 0) c)) -∗ Q ⟨⟩)
        -∗ WP c (onBufs (k0_part18 (F := F)) c) Q) := by
  rw [k0_part18_eq_skeleton]
  unfold k0_part18_skel
  simp only [Prog.lift, Prog.bind_op, Prog.bind_ret, Prog.pure_eq_ret]
  iintro ⟨#HC, HO, H0, H1, H2, H3, H4⟩ Hk
  iapply (snt m K c (.a 0) rfl rfl) $$ HC HO H0; iintro ⟨HO, H0⟩
  iapply (snt m K c (.b 2) rfl rfl) $$ HC HO H1; iintro ⟨HO, H1⟩
  iapply (snt m K c (.b 1) rfl rfl) $$ HC HO H2; iintro ⟨HO, H2⟩
  iapply (snt m K c (.b 3) rfl rfl) $$ HC HO H3; iintro ⟨HO, H3⟩
  iapply (snt m K c (.b 0) rfl rfl) $$ HC HO H4; iintro ⟨HO, H4⟩
  iapply (done c _)
  iapply Hk
  isplitl [HO]; · iexact HO
  isplitl [H0]; · iexact H0
  isplitl [H1]; · iexact H1
  isplitl [H2]; · iexact H2
  isplitl [H3] <;> iassumption

/-- The waits for five sends again. -/
theorem wp_part19 {Q} : iprop(Ctx m K ∗ OweN c 18 ∗ SndF (F := F) (.d 2) c ∗ SndF (F := F) (.d 1) c ∗ SndF (F := F) (.d 3) c ∗ SndF (F := F) (.d 0) c ∗ SndF (F := F) .ag c)
    ⊢ iprop(((OweN c 18 ∗ (sendDone (.d 2) c ∗ srcPts m (.d 2) c) ∗ (sendDone (.d 1) c ∗ srcPts m (.d 1) c) ∗ (sendDone (.d 3) c ∗ srcPts m (.d 3) c) ∗ (sendDone (.d 0) c ∗ srcPts m (.d 0) c) ∗ (sendDone .ag c ∗ srcPts m .ag c)) -∗ Q ⟨⟩)
        -∗ WP c (onBufs (k0_part19 (F := F)) c) Q) := by
  rw [k0_part19_eq_skeleton]
  unfold k0_part19_skel
  simp only [Prog.lift, Prog.bind_op, Prog.bind_ret, Prog.pure_eq_ret]
  iintro ⟨#HC, HO, H0, H1, H2, H3, H4⟩ Hk
  iapply (snt m K c (.d 2) rfl rfl) $$ HC HO H0; iintro ⟨HO, H0⟩
  iapply (snt m K c (.d 1) rfl rfl) $$ HC HO H1; iintro ⟨HO, H1⟩
  iapply (snt m K c (.d 3) rfl rfl) $$ HC HO H2; iintro ⟨HO, H2⟩
  iapply (snt m K c (.d 0) rfl rfl) $$ HC HO H3; iintro ⟨HO, H3⟩
  iapply (snt m K c .ag rfl rfl) $$ HC HO H4; iintro ⟨HO, H4⟩
  iapply (done c _)
  iapply Hk
  isplitl [HO]; · iexact HO
  isplitl [H0]; · iexact H0
  isplitl [H1]; · iexact H1
  isplitl [H2]; · iexact H2
  isplitl [H3] <;> iassumption

end Parts

end Cert.KernelIdealProof

end
-- ==== Proof.IBody.lean ====
/-
# The body

The parts one after another: from what a device starts with to what it ends with.
-/
module

public import proofs.«01_k».proof.Proof.IAdds

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop shareTok)
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (K : Dev nD × Ck → ℕ) (c : Dev nD)

/-- Something for each of the five transfers of a leg, -/
def each5 (P : T → sProp 𝕄) (i : ℕ) : sProp 𝕄 := iprop(P (tOf i 0) ∗ P (tOf i 1) ∗ P (tOf i 2) ∗ P (tOf i 3) ∗ P (tOf i 4))
/-- and of all three. -/
def each (P : T → sProp 𝕄) : sProp 𝕄 := iprop(each5 P 0 ∗ each5 P 1 ∗ each5 P 2)

/-- Two things for each transfer of a leg are one pair for each. -/
theorem each5_sep (P R : T → sProp 𝕄) (i : ℕ) : iprop(each5 P i ∗ each5 R i) ⊢ each5 (fun t => iprop(P t ∗ R t)) i := by
  unfold each5
  iintro ⟨⟨A0, A1, A2, A3, A4⟩, ⟨B0, B1, B2, B3, B4⟩⟩
  dsimp only
  iframe

/-- What a barrier's wait brings makes the sends of a leg possible. -/
theorem bar_slots (i : Fin 3) : barPay (F := F) i c = each5 (fun t => slotAny (F := F) t (tgt t c)) i.val := match i with
  | 0 => slots_leg (fun t => slotAny (F := F) t (nb 0 c)) 0
  | 1 => slots_leg (fun t => slotAny (F := F) t (nb 1 c)) 1
  | 2 => slots_leg (fun t => slotAny (F := F) t (nb 2 c)) 2
/-- With what the barrier's wait brings, a device has all it needs for each of its sends. -/
theorem sends_ready : iprop(barPay (F := F) 0 c ∗ barPay (F := F) 1 c ∗ barPay (F := F) 2 c ∗ each (fun t => SndI (F := F) t c))
    ⊢ each (fun t => SndH (F := F) t c) := by
  rw [show barPay (F := F) 0 c = each5 _ 0 from bar_slots c 0, show barPay (F := F) 1 c = each5 _ 1 from bar_slots c 1,
    show barPay (F := F) 2 c = each5 _ 2 from bar_slots c 2]
  unfold each SndH
  iintro ⟨B0, B1, B2, ⟨A0, A1, A2⟩⟩
  isplitl [A0 B0]
  · iapply (each5_sep (fun t => SndI (F := F) t c) (fun t => slotAny (F := F) t (tgt t c)) 0) $$ [$]
  isplitl [A1 B1]
  · iapply (each5_sep (fun t => SndI (F := F) t c) (fun t => slotAny (F := F) t (tgt t c)) 1) $$ [$]
  · iapply (each5_sep (fun t => SndI (F := F) t c) (fun t => slotAny (F := F) t (tgt t c)) 2) $$ [$]

/-- What a device starts the body with, besides its buffers; -/
def Kit : sProp 𝕄 :=
  iprop(OweN c 0 ∗ (Sig (F := F) 0 c ∗ Sig (F := F) 1 c ∗ Sig (F := F) 2 c) ∗ BarI (F := F) c ∗ each (fun t => SndI (F := F) t c) ∗ each (fun t => RcvI (F := F) t c))
/-- what it ends it with; -/
def Spent : sProp 𝕄 := iprop(OweN c 18 ∗ barDone c ∗ each (fun t => sendDone t c) ∗ each (fun t => recvDone t c))
/-- the bands of all fifteen transfers; -/
def allBands : List T := [.dg, .bg, .d 0, .b 0, .d 3, .b 1, .b 3, .b 2, .d 2, .d 1, .ag, .a 3, .a 2, .a 1, .a 0]
/-- what the argument's block lends the five sends of it; -/
def xLent : sProp 𝕄 := iprop(srcPts m (.a 0) c ∗ srcPts m (.a 1) c ∗ srcPts m (.a 2) c ∗ srcPts m (.a 3) c ∗ srcPts m .ag c)
/-- and the landing slots, each with what was sent to it. -/
def Full : sProp 𝕄 := each fun t => slotQ m fullShare t c

/-- The body. -/
theorem wp_body {Q} : iprop(Ctx m K ∗ Kit (F := F) c ∗ xL m c ∗ xLent m c ∗ OutB m c [])
    ⊢ iprop(((Spent (F := F) c ∗ xL m c ∗ xLent m c ∗ OutB m c allBands ∗ Full m c) -∗ Q ⟨⟩)
        -∗ WP c (onBufs (cc0_body (F := F))) Q) := by
  rw [cc0_body_eq_skeleton]
  unfold cc0_body_skel WP
  simp only [wp_bind]
  unfold Kit xLent
  iintro ⟨#HC, ⟨HO, ⟨G0, G1, G2⟩, HB, HS, HR⟩, Hx, ⟨Pa0, Pa1, Pa2, Pa3, Pag⟩, Hv⟩ Hk
  iapply (wp_part1 m K c) $$ [$]
  iintro %w1 %w2 %w3 %w4 %w5 %w6 %w7 %w8 %w9 HO
  dsimp only
  iapply (wp_part2 m K c _ _ _ _ _ _ _ _) $$ [$]
  iintro %v1 %v2 %v3 %v4 %v5 %v6 %v7 ⟨HO, DB, B0, B1, B2⟩
  icases (sends_ready c) $$ [$] with HS
  unfold each each5
  icases HS with ⟨⟨Sa0, Sa1, Sa2, Sa3, Sag⟩, ⟨Sb0, Sb1, Sb2, Sb3, Sbg⟩, ⟨Sd0, Sd1, Sd2, Sd3, Sdg⟩⟩
  icases HR with ⟨⟨Ra0, Ra1, Ra2, Ra3, Rag⟩, ⟨Rb0, Rb1, Rb2, Rb3, Rbg⟩, ⟨Rd0, Rd1, Rd2, Rd3, Rdg⟩⟩
  dsimp only [tOf]
  iapply (wp_part3 m K c _ _ _ _ _ _) $$ [$]
  iintro ⟨HO, Sa2, Sa1⟩
  iapply (wp_part4 m K c _ _ _ _) $$ [$]
  iintro ⟨HO, Sa3, Sa0, Sag⟩
  iapply (wp_part5 m K c _ _ _ _ _ _) $$ [$]
  iintro %v160 ⟨HO, Ra2, Qa2, Sb2, Sd2⟩
  iapply (wp_part6 m K c _ _ _ _ _ _) $$ [$]
  iintro ⟨HO, Ra1, Qa1, Sb1, Sd1⟩
  iapply (wp_part7 m K c _ _ _ _ _ _) $$ [$]
  iintro ⟨HO, Ra3, Pd3, Qa3, Sb3⟩
  iapply (wp_part8 m K c _ _ _ _ _) $$ [$]
  iintro %v255 ⟨HO, Sd3, Ra0, Pd0, Qa0, Sb0⟩
  iapply (wp_part9 m K c _ _ _ _) $$ [$]
  iintro %v284 ⟨HO, Sd0, ⟨Rd1, Qd1⟩, Rd2, Qd2⟩
  icases ((pass_d m c).1) $$ [$] with ⟨Pbg, Zd, Qd1, Qd2⟩
  iapply (wp_part10 m K c _ _ _ _) $$ [$]
  iintro ⟨HO, Sbg, ⟨Rb2, Qb2⟩, Rb3, Qb3⟩
  icases ((pass_b m c).1) $$ [$] with ⟨Pdg, Yd, Qb2, Qb3⟩
  iapply (wp_part11 m K c _ _ _ _ _) $$ [$]
  iintro %v350 %h350 ⟨HO, Sdg, Qa0, Qa1, Qa2, Hx, Hv⟩
  iapply (wp_part12 m K c _ _ _ _ _ _ _ _ h350) $$ [$]
  iintro %v380 %v386 %h386 ⟨HO, ⟨Rag, Qag⟩, Qa3, Qd1, Hx, Hv⟩
  dsimp only
  iapply (wp_part13 m c _ _ _ _ _ _ _ _ h386) $$ [$]
  iintro %v419 %v420 ⟨Qd2, Qb2, Qb3, Hx, Hv⟩
  dsimp only
  iapply (wp_part14 m K c _ _ _ _ _ _ _ _) $$ [$]
  iintro %v451 %h451 ⟨HO, ⟨Rb1, Qb1⟩, ⟨Rd3, Qd3⟩, Hx, Hv⟩
  iapply (wp_part15 m K c _ _ _ _ _ _ _ _ _ h451) $$ [$]
  iintro %v483 ⟨HO, ⟨Rb0, Qb0⟩, ⟨Rd0, Qd0⟩, Hx, Hv⟩
  iapply (wp_part16 m K c _ _ _ _ _ _ _ _) $$ [$]
  iintro ⟨HO, ⟨Rbg, Qbg⟩, Qd0, Hx, Hv⟩
  iapply (wp_part17 m K c _ _) $$ [$]
  iintro ⟨HO, ⟨Rdg, Qdg⟩, Hx, Hv, ⟨Sa2, Pa2⟩, ⟨Sa1, Pa1⟩, Sa3, Pa3⟩
  iapply (wp_part18 m K c) $$ [$]
  iintro ⟨HO, ⟨Sa0, Pa0⟩, ⟨Sb2, Pb2⟩, ⟨Sb1, Pb1⟩, ⟨Sb3, Pb3⟩, Sb0, Pb0⟩
  iapply (wp_part19 m K c) $$ [$]
  iintro ⟨HO, ⟨Sd2, Pd2⟩, ⟨Sd1, Pd1⟩, ⟨Sd3, Pd3⟩, ⟨Sd0, Pd0⟩, Sag, Pag⟩
  simp only [Prog.lift, Prog.bind_op, Prog.bind_ret, Prog.pure_eq_ret]
  iapply (snt m K c .bg rfl rfl) $$ HC HO Sbg; iintro ⟨HO, Sbg, Pbg⟩
  iapply (done c _)
  iapply (snt m K c .dg rfl rfl) $$ HC HO Sdg; iintro ⟨HO, Sdg, Pdg⟩
  iapply (done c _)
  iapply (done c _)
  iapply Hk
  ihave Qa0 := ((pass_a m c 0).2) $$ [Pb0 Pd0 Qa0]; · iframe
  ihave Qa1 := ((pass_a m c 1).2) $$ [Pb1 Pd1 Qa1]; · iframe
  ihave Qa2 := ((pass_a m c 2).2) $$ [Pb2 Pd2 Qa2]; · iframe
  ihave Qa3 := ((pass_a m c 3).2) $$ [Pb3 Pd3 Qa3]; · iframe
  icases ((pass_d m c).2) $$ [Pbg Zd Qd1 Qd2] with ⟨Qd1, Qd2⟩; · iframe
  icases ((pass_b m c).2) $$ [Pdg Yd Qb2 Qb3] with ⟨Qb2, Qb3⟩; · iframe
  unfold Spent Full each each5 allBands
  dsimp only [tOf]
  iframe

end Cert.KernelIdealProof

end
-- ==== Proof.IDat.lean ====
/-
# The kernel's one point

The launch runs the body once on each device. This module gives the pipeline's data, the contents of each window's
buffer before and after the point and what a device holds besides, and shows that the body takes the one to the other.
-/
module

public import proofs.«01_k».proof.Proof.IBody
public import proofs.«01_k».proof.Proof.Gen.KernelIdeal.Points

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop shareTok)
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## The landing buffers -/

section Scr
variable (c : Dev nD)

/-- The six landing buffers, holding anything. -/
def Scr : sProp 𝕄 :=
  iprop((∃ f, xoM.view.loc (c : Thread nD τ) ↦{fullShare} f) ∗ (∃ f, xgM.view.loc (c : Thread nD τ) ↦{fullShare} f)
    ∗ (∃ f, yoM.view.loc (c : Thread nD τ) ↦{fullShare} f) ∗ (∃ f, ygM.view.loc (c : Thread nD τ) ↦{fullShare} f)
    ∗ (∃ f, zoM.view.loc (c : Thread nD τ) ↦{fullShare} f) ∗ (∃ f, zgM.view.loc (c : Thread nD τ) ↦{fullShare} f))

/-- They are the slots a device hands its neighbours, leg by leg, -/
theorem scr_slots : Scr (F := F) c ⊢ iprop(legSlots (F := F) 0 c ∗ legSlots (F := F) 1 c ∗ legSlots (F := F) 2 c) := by
  unfold Scr legSlots
  rw [slots_leg (fun t => slotAny (F := F) t c) 0, slots_leg (fun t => slotAny (F := F) t c) 1, slots_leg (fun t => slotAny (F := F) t c) 2]
  iintro ⟨⟨%f0, H0⟩, ⟨%f1, H1⟩, ⟨%f2, H2⟩, ⟨%f3, H3⟩, ⟨%f4, H4⟩, ⟨%f5, H5⟩⟩
  icases (Entails.of_eq (xo_four c f0)) $$ H0 with ⟨A0, A1, A2, A3⟩
  icases (Entails.of_eq (yo_four c f2)) $$ H2 with ⟨B0, B1, B2, B3⟩
  icases (Entails.of_eq (zo_four c f4)) $$ H4 with ⟨D0, D1, D2, D3⟩
  ihave A4 := (Entails.of_eq (xg_one c f1)) $$ H1
  ihave B4 := (Entails.of_eq (yg_one c f3)) $$ H3
  ihave D4 := (Entails.of_eq (zg_one c f5)) $$ H5
  dsimp only [tOf]
  unfold slotAny
  isplitl [A0 A1 A2 A3 A4]
  · isplitl [A0]; · iexists f0; iexact A0
    isplitl [A1]; · iexists f0; iexact A1
    isplitl [A2]; · iexists f0; iexact A2
    isplitl [A3]; · iexists f0; iexact A3
    iexists f1; iexact A4
  isplitl [B0 B1 B2 B3 B4]
  · isplitl [B0]; · iexists f2; iexact B0
    isplitl [B1]; · iexists f2; iexact B1
    isplitl [B2]; · iexists f2; iexact B2
    isplitl [B3]; · iexists f2; iexact B3
    iexists f3; iexact B4
  · isplitl [D0]; · iexists f4; iexact D0
    isplitl [D1]; · iexists f4; iexact D1
    isplitl [D2]; · iexists f4; iexact D2
    isplitl [D3]; · iexists f4; iexact D3
    iexists f5; iexact D4

/-- and the slots, filled, are the buffers again. -/
theorem full_scr : Full m c ⊢ Scr (F := F) c := by
  have hs : ∀ t, slotQ m fullShare t c = slotPts t c (dstC m t c) := fun _ => rfl
  unfold Full each each5 Scr
  dsimp only [tOf]
  simp only [hs]
  iintro ⟨⟨A0, A1, A2, A3, A4⟩, ⟨B0, B1, B2, B3, B4⟩, ⟨D0, D1, D2, D3, D4⟩⟩
  isplitl [A0 A1 A2 A3]; · iexists (xoC m c); iapply (Entails.of_eq (xo_four c (xoC m c)).symm); iframe
  isplitl [A4]; · iexists _; iapply (Entails.of_eq (xg_one c _).symm); iexact A4
  isplitl [B0 B1 B2 B3]; · iexists (yoC m c); iapply (Entails.of_eq (yo_four c (yoC m c)).symm); iframe
  isplitl [B4]; · iexists _; iapply (Entails.of_eq (yg_one c _).symm); iexact B4
  isplitl [D0 D1 D2 D3]; · iexists (zoC m c); iapply (Entails.of_eq (zo_four c (zoC m c)).symm); iframe
  iexists _; iapply (Entails.of_eq (zg_one c _).symm); iexact D4

/-! ## The argument's block and the result -/

/-- The argument's block is what the loads read, what the sends borrow, and the rest. -/
def xLeft : sProp 𝕄 :=
  iprop(xRest m c (.a 0) (srcM (.a 0) c).view.set ∗ xRest m c (.a 1) (srcM (.a 1) c).view.set ∗ xRest m c (.a 2) (srcM (.a 2) c).view.set
    ∗ xRest m c (.a 3) (srcM (.a 3) c).view.set ∗ xRest m c .ag (srcM .ag c).view.set)
/-- The argument's block is the loads' share, what the five transfers that read it are lent, and what is left over. -/
theorem x_parts : (xM.view.loc (c : Thread nD τ) ↦{fullShare} X m c : sProp 𝕄) ⊣⊢ iprop(xL m c ∗ xLent m c ∗ xLeft m c) := by
  have h := x_five m c (srcM (.a 0) c).view.set (srcM (.a 1) c).view.set (srcM (.a 2) c).view.set (srcM (.a 3) c).view.set (srcM .ag c).view.set
  have hi : ∀ k, xIn m c (.a k) (srcM (.a k) c).view.set = srcPts m (.a k) c := fun _ => rfl
  have hg : xIn m c .ag (srcM .ag c).view.set = srcPts m .ag c := rfl
  rw [hi, hi, hi, hi, hg] at h
  unfold xLent xLeft
  constructor
  · iintro H
    icases h.1 $$ H with ⟨HL, ⟨A0, R0⟩, ⟨A1, R1⟩, ⟨A2, R2⟩, ⟨A3, R3⟩, ⟨A4, R4⟩⟩
    iframe
  · iintro ⟨HL, ⟨A0, A1, A2, A3, A4⟩, ⟨R0, R1, R2, R3, R4⟩⟩
    iapply h.2
    iframe

/-- Every row lies in some transfer's band. -/
theorem row_band {r : ℕ} (h : r < 1024) : ∃ t, lo c t ≤ r ∧ r < lo c t + ht t := by
  have hf := rows_facts c
  have hk : r % 256 / 64 < 4 := by omega
  by_cases h1 : r / 256 = rowMe c / 256
  · exact ⟨.a ⟨_, hk⟩, by simp only [lo]; omega, by simp only [lo, ht]; omega⟩
  by_cases h2 : r / 256 = rowMe (ymate c) / 256
  · exact ⟨.b ⟨_, hk⟩, by simp only [lo]; omega, by simp only [lo, ht]; omega⟩
  by_cases h3 : r / 256 = rowMe (zmate c) / 256
  · exact ⟨.d ⟨_, hk⟩, by simp only [lo]; omega, by simp only [lo, ht]; omega⟩
  have h4 : r / 256 = rowG c / 256 := by omega
  by_cases h5 : r % 256 < 104
  · exact ⟨.ag, by simp only [lo]; omega, by simp only [lo, ht]; omega⟩
  by_cases h6 : r % 256 < 176
  · exact ⟨.bg, by simp only [lo]; omega, by simp only [lo, ht]; omega⟩
  · exact ⟨.dg, by simp only [lo]; omega, by simp only [lo, ht]; omega⟩

/-- Every transfer's band is on the list. -/
theorem all_bands (t : T) : t ∈ allBands := by revert t; decide +kernel

/-- So with the fifteen bands written the buffer holds the result. -/
theorem out_full : OutB m c allBands ⊢ (oM.view.loc (c : Thread nD τ) ↦{fullShare} outAt m c : sProp 𝕄) := by
  unfold OutB OutI
  iintro ⟨%f, %hf, H⟩
  have e : f = outAt m c := funext fun i => by
    obtain ⟨t, h1, h2⟩ := row_band c (i 0).isLt
    exact hf i ⟨_, List.mem_map.mpr ⟨t, all_bands t, rfl⟩, h1, h2⟩
  subst e
  iexact H
/-- At the start no band of the result is written. -/
theorem out_none (f : Buf (Elt F) (oM.view.loc (c : Thread nD τ))) : (oM.view.loc (c : Thread nD τ) ↦{fullShare} f) ⊢ (OutB m c [] : sProp 𝕄) := by
  unfold OutB OutI
  iintro H
  iexists f
  isplitr
  · ipureintro; rintro i ⟨p, hp, _⟩; exact absurd hp List.not_mem_nil
  · iexact H

end Scr

/-! ## The data of the launch -/

/-- The tokens, positions and credit a device starts with. -/
def Toks (c : Dev nD) : sProp 𝕄 :=
  iprop((dutyTok ER (barCell (nb 0 c)) 0 0 ∗ dutyTok ER (barCell (nb 1 c)) 0 1 ∗ dutyTok ER (barCell (nb 2 c)) 0 2)
    ∗ BarI (F := F) c ∗ each (fun t => SndI (F := F) t c) ∗ each (fun t => RcvI (F := F) t c))
/-- What a device holds before the point besides the windows' buffers, -/
def start (c : Dev nD) : sProp 𝕄 := iprop((∃ K, Ctx m K) ∗ Toks (F := F) c)
def Φ₀ (c : Dev nD) : sProp 𝕄 := iprop(start m c ∗ Scr (F := F) c)
/-- and after it. -/
def Φ₁ (c : Dev nD) : sProp 𝕄 := iprop(Scr (F := F) c ∗ barDone c ∗ each (fun t => sendDone t c) ∗ each (fun t => recvDone t c))

/-- What a device owes at the start. -/
def O₀ (c : Dev nD) : CellTallies nD τ sig Unit := OL c allIt

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A window's buffer, holding `v`. -/
abbrev stg (c : Dev nD) (b : Ref sig .tc) (v : b.ty.Contents (Elt F)) : sProp 𝕄 :=
  iprop(∃ f : Buf (Elt F) ((c : Thread nD τ).loc b), ⌜f = v⌝ ∗ (((c : Thread nD τ).loc b) ↦{fullShare} f))
/-- Owning a whole buffer is holding all its elements. -/
theorem owns_stg (c : Dev nD) (b : Ref sig .tc) (v : b.ty.Contents (Elt F)) :
    (owns (Ix := Unit) (Name := ℕ) (U := UU) (Lvl := ℕ) (c : Thread nD τ) (Memref.whole b) fullShare v : sProp 𝕄) = stg c b v := by
  unfold owns; simp only [Memref.view_whole, View.read_whole, View.set_whole]

/-- What the point starts from on a device, and what it ends with. -/
def pre (c : Dev nD) : sProp 𝕄 :=
  iprop(Φ₀ m c ∗ (dats m ρ 0 c).owesAt () t0_0.castSucc
    ∗ (∃ d, stg c cc0_stg0_0 ((dats m ρ 0 c).before (0 : Fin 2) t0_0 d)) ∗ (∃ d, stg c cc0_stg1_0 ((dats m ρ 0 c).before (1 : Fin 2) t0_0 d)))
def post (c : Dev nD) : sProp 𝕄 :=
  iprop(Φ₁ (F := F) c ∗ (dats m ρ 0 c).owesAt () t0_0.succ ∗ stg c cc0_stg0_0 (X m c) ∗ stg c cc0_stg1_0 (outAt m c))

/-- The body takes the one to the other. -/
theorem body_point (c : Dev nD) : pre m ρ c ⊢ WP c (onBufs (cc0_body (F := F))) (fun _ => post m ρ c) := by
  unfold pre Φ₀ start Toks
  iintro ⟨⟨⟨⟨%K, #HC⟩, ⟨T0, T1, T2⟩, HB, HS, HR⟩, Hscr⟩, Ho, ⟨%d0, %g0, %hg0, Hx⟩, ⟨%d1, %g1, %hg1, Hv⟩⟩
  have hx : g0 = X m c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = OL c allIt from rfl]
  icases (scr_slots c) $$ Hscr with ⟨L0, L1, L2⟩
  icases (x_parts m c).1 $$ Hx with ⟨HxL, HxS, HxR⟩
  ihave Hv := (out_none m c g1) $$ Hv
  iapply (wp_body m K c) $$ [HO T0 T1 T2 L0 L1 L2 HB HS HR HxL HxS Hv]
  · isplitr; · iexact HC
    unfold Kit Sig
    isplitl [HO T0 T1 T2 L0 L1 L2 HB HS HR]
    · isplitl [HO]; · unfold OweN Owe; iexists W; iexact HO
      iframe
    · iframe
  iintro ⟨Hsp, HxL, HxS, Hv, HF⟩
  unfold Spent OweN Owe
  icases Hsp with ⟨⟨%W', HO⟩, HD⟩
  unfold post Φ₁ Dat.owesAt Pipeline.owesWithin
  rw [show (dats m ρ 0 c).owed t0_0.succ = 0 from rfl]
  isplitl [HF HD]
  · isplitl [HF]; · iapply (full_scr m c); iexact HF
    iexact HD
  isplitl [HO]
  · iexists W'
    isplitr; · ipureintro; exact fun _ _ => Or.inl trivial
    iexact HO
  isplitl [HxL HxS HxR]
  · iexists _; isplitr; · (ipureintro; rfl)
    iapply (x_parts m c).2; iframe
  iexists _; isplitr; · (ipureintro; rfl)
  iapply (out_full m c); iexact Hv

set_option maxRecDepth 20000 in
/-- As the library asks for it. -/
theorem body_obligation (c : Dev nD) : BodyObligation (dats (F := F) m ρ 0 c) (defs₀ (F := F)) 𝒱₀ () Set.univ := fun t => by
  rw [fin_N0 t, bigSep_W0, bigSep_W0]
  simp only [owns_stg]
  show pre m ρ c ⊢ WP c (onBufs (cc0_body (F := F))) (fun _ => post m ρ c)
  exact body_point m ρ c

end Cert.KernelIdealProof

end
-- ==== Proof.ILaunch.lean ====
/-
# The launch

Before the bodies start, the semaphores of all the devices become cells, and the tokens of their duties go to the devices
that pay them. This module does that, and draws from the pipeline's launch that every run of the program ends with each
device's result as computed, its argument unchanged and every semaphore at zero.
-/
module

public import proofs.«01_k».proof.Proof.IDat
public import Idealize.ShloMosaic.Lib.Pipeline.Launch
public import Idealize.ShloMosaic.Lib.Pipeline.Kit
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop shareTok)
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## Families over the cells and the transfers -/

/-- A device's cells as the barrier, the sending and the receiving ends. -/
def ckE : Unit ⊕ T ⊕ T ≃ Ck where
  toFun | .inl _ => none | .inr (.inl t) => some (false, t) | .inr (.inr t) => some (true, t)
  invFun | none => .inl () | some (false, t) => .inr (.inl t) | some (true, t) => .inr (.inr t)
  left_inv := by rintro (_ | _ | _) <;> rfl
  right_inv := by rintro (_ | ⟨_ | _, _⟩) <;> rfl

/-- Something for each cell of a device is it for the barrier, for each sending end and for each receiving end. -/
theorem over_ck (P : Ck → sProp 𝕄) : bigSep Finset.univ P
    = iprop(P none ∗ (bigSep Finset.univ fun t => P (some (false, t))) ∗ bigSep Finset.univ fun t => P (some (true, t))) := by
  rw [bigSep_univ_equiv ckE P, bigSep_univ_sum, bigSep_univ_sum, Finset.univ_unique, bigSep_singleton]
  rfl

/-- Something for each transfer is it for each of the fifteen. -/
theorem over_T (P : T → sProp 𝕄) : bigSep Finset.univ P ⊣⊢ each P := by
  have h : bigSep Finset.univ P = iprop(P (.a 0) ∗ P (.a 1) ∗ P (.a 2) ∗ P (.a 3) ∗ P .ag ∗ P (.b 0) ∗ P (.b 1) ∗ P (.b 2) ∗ P (.b 3) ∗ P .bg
      ∗ P (.d 0) ∗ P (.d 1) ∗ P (.d 2) ∗ P (.d 3) ∗ P .dg) := by
    rw [bigSep_univ_eq_bigSepL [.a 0, .a 1, .a 2, .a 3, .ag, .b 0, .b 1, .b 2, .b 3, .bg, .d 0, .d 1, .d 2, .d 3, .dg] (by decide +kernel) (by decide +kernel)]
    simp only [bigSepL_cons_cons, bigSepL_singleton]
    rfl
  have e : each P = iprop((P (.a 0) ∗ P (.a 1) ∗ P (.a 2) ∗ P (.a 3) ∗ P .ag) ∗ (P (.b 0) ∗ P (.b 1) ∗ P (.b 2) ∗ P (.b 3) ∗ P .bg)
    ∗ (P (.d 0) ∗ P (.d 1) ∗ P (.d 2) ∗ P (.d 3) ∗ P .dg)) := rfl
  rw [h, e]
  constructor
  · iintro ⟨A0, A1, A2, A3, A4, B0, B1, B2, B3, B4, D0, D1, D2, D3, D4⟩; iframe
  · iintro ⟨⟨A0, A1, A2, A3, A4⟩, ⟨B0, B1, B2, B3, B4⟩, ⟨D0, D1, D2, D3, D4⟩⟩; iframe

/-- Something for each leg is it three times. -/
theorem over_legs (P : Fin 3 → sProp 𝕄) : bigSep Finset.univ P = iprop(P 0 ∗ P 1 ∗ P 2) := by
  rw [bigSep_univ_eq_bigSepL [0, 1, 2] (by decide) (by decide), bigSepL_cons_cons, bigSepL_cons_cons, bigSepL_singleton]
  rfl

/-- A family over the devices may be dealt out along a leg, each member along its own. -/
theorem deal {I : Type} [Fintype I] (l : I → Fin 3) (P : I → Dev nD → sProp 𝕄) :
    (bigSep Finset.univ fun c => bigSep Finset.univ fun i => P i c) = bigSep Finset.univ fun c => bigSep Finset.univ fun i => P i (nb (l i) c) := by
  have swap : ∀ R : Dev nD → I → sProp 𝕄, (bigSep Finset.univ fun c => bigSep Finset.univ fun i => R c i) = bigSep Finset.univ fun i => bigSep Finset.univ fun c => R c i :=
    fun R => Pipeline.bigSep_univ_comm R
  rw [swap, swap]
  exact bigSep_congr fun i _ => bigSep_univ_equiv (nbE (l i)) (P i)

/-- What persists may be given to every member of a family. -/
theorem share_all {I : Type} [DecidableEq I] {S : Finset I} {R : sProp 𝕄} [BI.Persistent R] {P Q : I → sProp 𝕄}
    (h : ∀ i, iprop(R ∗ P i) ⊢ Q i) : iprop(R ∗ bigSep S P) ⊢ bigSep S Q := by
  refine (sep_mono_left (BI.bigSep_of_persistent S R)).trans ?_
  rw [← bigSep_sep']
  exact bigSep_mono fun i _ => h i

/-! ## The semaphores -/

/-- The kernel's own semaphores: the two ends of each transfer. -/
def osem : T ⊕ T → SemLoc sig
  | .inl t => csem (some (false, t))
  | .inr t => csem (some (true, t))

/-- The kernel's own semaphores are the two ends of the transfers, each once. -/
theorem ownSemFacts : Pipeline.OwnSemFacts cfg0.spec osem := by decide +kernel

section Sems
variable (c : Dev nD)

/-- All of them at zero is both ends of each transfer at zero, -/
theorem ownSems0_eq : (Pipeline.ownSems0 (Ix := Unit) (Name := ℕ) (U := UU) (Lvl := ℕ) (Val := Elt F) (τ := τ) osem c : sProp 𝕄)
    = iprop((bigSep Finset.univ fun t => sendDone t c) ∗ bigSep Finset.univ fun t => recvDone t c) := by
  unfold Pipeline.ownSems0; rw [bigSep_univ_sum]; rfl
/-- and the one semaphore that outlives the kernel is the barrier's. -/
theorem unscopedSems0_eq : (unscopedSems0 c : sProp 𝕄) = barDone c := by
  unfold unscopedSems0; rw [bigSep_eq_bigSepL_of_eq [SemLoc.reg barS] (by decide +kernel) (by decide +kernel)]; rfl

/-- All of a device's semaphores are its cells'. -/
theorem sems_cells : iprop(Pipeline.ownSems0 (Ix := Unit) (Name := ℕ) (U := UU) (Lvl := ℕ) (Val := Elt F) (τ := τ) osem c ∗ unscopedSems0 c)
    ⊢ (bigSep Finset.univ fun k : Ck => semVal (kcell (c, k)) 0 : sProp 𝕄) := by
  rw [ownSems0_eq, unscopedSems0_eq, over_ck]
  iintro ⟨⟨HS, HV⟩, HB⟩
  isplitl [HB]; · iexact HB
  isplitl [HS]; · iexact HS
  iexact HV

end Sems

/-! ## The cells and their tokens -/

/-- A device's own duties: its barrier's three, and one at each end of a transfer. -/
abbrev Du : Type := Fin 3 ⊕ T ⊕ T
def tok : Dev nD × Du → GSem nD τ sig × ℕ × Fin 3
  | (c, .inl i) => (barCell c, 0, i)
  | (c, .inr (.inl t)) => (sendCell t c, 0, 0)
  | (c, .inr (.inr t)) => (recvCell t c, 0, 0)

/-- Different duties have different tokens. -/
theorem tok_injective : Function.Injective tok := by
  have cell : ∀ p q : Dev nD × Ck, kcell p = kcell q → p = q := fun _ _ h => kcell_injective h
  rintro ⟨c, i | t | t⟩ ⟨c', i' | t' | t'⟩ h
  all_goals
    have hc := congrArg Prod.fst h
    have hd := congrArg (fun x => x.2.2) h
  · have e := cell (c, none) (c', none) hc
    simp only [Prod.mk.injEq] at e
    rw [e.1, show i = i' from hd]
  · have e := cell (c, none) (c', some (false, t')) hc; simp at e
  · have e := cell (c, none) (c', some (true, t')) hc; simp at e
  · have e := cell (c, some (false, t)) (c', none) hc; simp at e
  · have e := cell (c, some (false, t)) (c', some (false, t')) hc; simp at e; rw [e.1, e.2]
  · have e := cell (c, some (false, t)) (c', some (true, t')) hc; simp at e
  · have e := cell (c, some (true, t)) (c', none) hc; simp at e
  · have e := cell (c, some (true, t)) (c', some (false, t')) hc; simp at e
  · have e := cell (c, some (true, t)) (c', some (true, t')) hc; simp at e; rw [e.1, e.2]

def cells : Finset (GSem nD τ sig) := Finset.univ.map ⟨kcell, kcell_injective⟩
def toks : Finset (GSem nD τ sig × ℕ × Fin 3) := Finset.univ.map ⟨tok, tok_injective⟩
def u₀ : UU := (initOf (Pipeline.cells cfgs cellOf_inj) (Pipeline.launchToks cfgs cellOf_inj), initOf cells toks)

/-- The tokens of the duties of a device's own cells, -/
def minted (c : Dev nD) : sProp 𝕄 :=
  iprop((bigSep Finset.univ fun i : Fin 3 => dutyTok ER (barCell c) 0 i) ∗ (bigSep Finset.univ fun t => dutyTok ER (sendCell t c) 0 0)
    ∗ bigSep Finset.univ fun t => dutyTok ER (recvCell t c) 0 0)
/-- and those of the duties it pays. -/
def payToks (c : Dev nD) : sProp 𝕄 :=
  iprop((bigSep Finset.univ fun i : Fin 3 => dutyTok ER (barCell (nb i c)) 0 i) ∗ (bigSep Finset.univ fun t => dutyTok ER (sendCell t c) 0 0)
    ∗ bigSep Finset.univ fun t => dutyTok ER (recvCell t (tgt t c)) 0 0)

/-- What a device's positions are. -/
def places (c : Dev nD) : sProp 𝕄 := bigSep Finset.univ fun k : Ck => atPos ER (kcell (c, k)) 0 ∅ 0

/-- What a device is dealt, -/
def G (c : Dev nD) : sProp 𝕄 :=
  iprop((bigSep Finset.univ fun k : Ck => iprop(roundState ER (Rd m) (kcell (c, k)) 0 ∗ reached ER (kcell (c, k)) 0)) ∗ places (F := F) c ∗ minted (F := F) c)
/-- and what becomes of it once all the cells are there. -/
def G' (c : Dev nD) : sProp 𝕄 := iprop((∃ K, records m K) ∗ places (F := F) c ∗ payToks (F := F) c)

/-- Something for each cell of the mesh is it for each cell of each device, -/
theorem over_cells (P : GSem nD τ sig → sProp 𝕄) : bigSep cells P = bigSep Finset.univ fun c : Dev nD => bigSep Finset.univ fun k : Ck => P (kcell (c, k)) := by
  unfold cells; rw [bigSep_map, bigSep_univ_prod]; rfl
/-- and a token for each duty is the tokens of each device's own cells. -/
theorem over_toks : bigSep toks (fun x => (dutyTok ER x.1 x.2.1 x.2.2 : sProp 𝕄)) = bigSep Finset.univ fun c : Dev nD => minted c := by
  unfold toks; rw [bigSep_map, bigSep_univ_prod]
  exact bigSep_congr fun c _ => by unfold minted; rw [bigSep_univ_sum, bigSep_univ_sum]; rfl

/-- From the fresh ghost state every device is dealt its cells' states, positions and tokens. -/
theorem fund_cells : BI.own (ER (initOf cells toks)) ⊢ (|==> bigSep Finset.univ (G m) : sProp 𝕄) := by
  have hG : bigSep Finset.univ (G m) = iprop(((bigSep cells fun g => roundState ER (Rd m) g 0) ∗ bigSep cells fun g => reached ER g 0)
      ∗ (bigSep cells fun g => atPos ER g 0 ∅ 0) ∗ bigSep toks fun x => dutyTok ER x.1 x.2.1 x.2.2) := by
    rw [over_cells, over_cells, over_cells, over_toks]
    unfold G places
    simp only [bigSep_sep']
  rw [hG]
  iintro HX
  imod (Rounds.fund ER (Rd m) cells toks) $$ HX with ⟨Hst, Hr, Hat, Htok⟩
  imodintro
  iframe

/-- The tokens dealt out: a barrier's to the neighbours, a receiving end's to the sender. -/
theorem deal_toks : (bigSep Finset.univ fun c => minted (F := F) c) = bigSep Finset.univ fun c => payToks (F := F) c := by
  unfold minted payToks
  simp only [bigSep_sep']
  rw [deal id (fun i c => dutyTok ER (barCell c) 0 i), deal leg (fun t c => dutyTok ER (recvCell t c) 0 0)]
  rfl

/-- A device's semaphores become cells. -/
theorem core_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Ck => iprop(∃ κ : ℕ, cellInv ER (Rd m) κ (kcell (c, k)) ∗ reached ER (kcell (c, k)) 0))
          ∗ places (F := F) c ∗ minted (F := F) c) := by
  have one : ∀ k : Ck, iprop(semVal (kcell (c, k)) 0 ∗ (roundState ER (Rd m) (kcell (c, k)) 0 ∗ reached ER (kcell (c, k)) 0))
      ⊢ (|={Set.univ}=> iprop(∃ κ : ℕ, cellInv ER (Rd m) κ (kcell (c, k)) ∗ reached ER (kcell (c, k)) 0) : sProp 𝕄) := fun k => by
    iintro ⟨Hv, Hst, Hr⟩
    imod ((Rounds.body_intro ER (Rd m) (kcell (c, k))).trans inv_alloc) $$ [Hv Hst] with ⟨%κ, HI⟩
    · iframe
    imodintro
    iexists κ
    isplitl [HI]; · iexact HI
    iexact Hr
  have all : ∀ {P Q : Ck → sProp 𝕄}, (∀ k, P k ⊢ (|={Set.univ}=> Q k : sProp 𝕄)) → (bigSep Finset.univ P ⊢ (|={Set.univ}=> bigSep Finset.univ Q : sProp 𝕄)) :=
    fun h => (bigSep_mono fun k _ => h k).trans (bigSep_fupd _ _)
  unfold G
  iintro ⟨Hos, Hus, Hst, Hrest⟩
  ihave Hv := (sems_cells (F := F) c) $$ [Hos Hus]; · iframe
  ihave H := (Entails.of_eq (bigSep_sep' (Finset.univ : Finset Ck) (fun k => (semVal (kcell (c, k)) 0 : sProp 𝕄)) _).symm) $$ [Hv Hst]; · iframe
  imod (all one) $$ H with H
  imodintro
  isplitl [H]; · iexact H
  iexact Hrest

/-- All of them at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  refine ((bigSep_mono fun c _ => core_cells m c).trans (bigSep_fupd _ _)).trans (BI.fupd_mono (show (_ : sProp 𝕄) ⊢ _ from ?_))
  rw [bigSep_sep', bigSep_sep', deal_toks,
    ← bigSep_univ_prod (fun ck : Dev nD × Ck => iprop(∃ κ : ℕ, cellInv ER (Rd m) κ (kcell ck) ∗ reached ER (kcell ck) 0)), ← bigSep_sep']
  iintro ⟨HI, Hr⟩
  icases (BI.bigSep_exists_pi Finset.univ fun (ck : Dev nD × Ck) (κ : ℕ) => (iprop(cellInv ER (Rd m) κ (kcell ck) ∗ reached ER (kcell ck) 0) : sProp 𝕄)) $$ HI with ⟨%K, HI⟩
  iapply (share_all (R := records m K) (P := fun c => iprop(places (F := F) c ∗ payToks (F := F) c)) fun c => by
    unfold G'
    iintro ⟨HK, H⟩
    isplitl [HK]; · iexists K; iexact HK
    iexact H)
  isplitl [HI]; · unfold records; iexact HI
  iexact Hr

/-! ## The credit of what is owed -/

/-- The credit at launch is three units on each barrier -/
theorem credit_bar (c : Dev nD) : tallyOn (barCell c) (launchCredit (Pipeline.owing O₀) 0 (barCell c)) = (tallyAt (barCell c) () 3 : CellTallies nD τ sig Unit) := by
  unfold tallyAt
  refine congrArg _ (Finsupp.ext fun u => ?_)
  rw [Pipeline.launchCredit_owing, Finsupp.single_eq_same]
  exact owed_bar c
/-- and a transfer's credit on its receiving end, -/
theorem credit_recv (t : T) (c : Dev nD) :
    tallyOn (recvCell t c) (launchCredit (Pipeline.owing O₀) 0 (recvCell t c)) = (tallyAt (recvCell t c) () (N t) : CellTallies nD τ sig Unit) := by
  unfold tallyAt
  refine congrArg _ (Finsupp.ext fun u => ?_)
  rw [Pipeline.launchCredit_owing, Finsupp.single_eq_same]
  exact owed_recv t c

/-- which is what a device is given to wait with. -/
theorem credits (c : Dev nD) : (Pipeline.launchCred O₀ c : sProp 𝕄)
    ⊢ iprop(cred (tallyAt (barCell c) () 3) ∗ bigSep Finset.univ fun t => cred (tallyAt (recvCell t c) () (N t))) := by
  unfold Pipeline.launchCred
  refine (bigSep_subset (Finset.subset_univ (Finset.univ.map ⟨csem, csem_injective⟩))).trans ?_
  rw [bigSep_map, over_ck]
  show iprop(cred (tallyOn (barCell c) (launchCredit (Pipeline.owing O₀) 0 (barCell c)))
    ∗ (bigSep Finset.univ fun t => cred (tallyOn (sendCell t c) (launchCredit (Pipeline.owing O₀) 0 (sendCell t c))))
    ∗ (bigSep Finset.univ fun t => cred (tallyOn (recvCell t c) (launchCredit (Pipeline.owing O₀) 0 (recvCell t c))))) ⊢ (_ : sProp 𝕄)
  rw [credit_bar, bigSep_congr fun t _ => congrArg cred (credit_recv t c)]
  iintro ⟨HB, -, HR⟩
  iframe

/-! ## The launch -/

/-- A device has what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have hp : places (F := F) c = iprop(atPos ER (barCell c) 0 ∅ 0 ∗ (bigSep Finset.univ fun t => atPos ER (sendCell t c) 0 ∅ 0)
      ∗ bigSep Finset.univ fun t => atPos ER (recvCell t c) 0 ∅ 0) := by unfold places; rw [over_ck]; rfl
  unfold G' payToks
  rw [hp, over_legs]
  iintro ⟨-, Hlev, Hcr, -, ⟨%K, HK⟩, ⟨PB, PS, PR⟩, ⟨TB, TS, TR⟩⟩
  icases (credits (F := F) c) $$ Hcr with ⟨CB, CR⟩
  imodintro
  unfold start Toks BarI Ctx
  isplitl
  · isplitl [Hlev HK]
    · iexists K; iframe
    isplitl [TB]; · iexact TB
    isplitl [CB PB]; · iframe
    isplitl [TS TR PS]
    · iapply (over_T fun t => SndI (F := F) t c).1
      unfold SndI
      rw [bigSep_sep', bigSep_sep']
      iframe
    · iapply (over_T fun t => RcvI (F := F) t c).1
      unfold RcvI
      rw [bigSep_sep']
      iframe
  · iempintro

/-- What a device starts with and its scratch buffers are what the point starts from, -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Scr
  iintro ⟨Hs, -, Hr⟩
  isplitl [Hs]; · iexact Hs
  iexact Hr

/-- and from what the point ends with every semaphore and scratch buffer is handed back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ Scr
  iintro ⟨Hr, HB, HS, HV⟩
  isplitl [HB]; · iexact HB
  isplitl [HS HV]
  · isplitl [HS]
    · iapply (over_T fun t => sendDone (F := F) t c).2; iexact HS
    · iapply (over_T fun t => recvDone (F := F) t c).2; iexact HV
  iexact Hr

/-- Every transfer is above the lowest level, -/
theorem lvT_pos (t : T) : 0 < lvT t := by revert t; decide +kernel
/-- so the pipeline may wait for its own copies whatever is still owed. -/
theorem waits (c : Dev nD) : (levAts L lv : sProp 𝕄) ⊢ Pipeline.cellsWaits cfgs (dats m ρ) () 0 c :=
  Pipeline.cellsWaits_intro cfgs (dats m ρ) () 0 c fun w s t => by
    have h0 : ∀ l : List It, (levAts L lv : sProp 𝕄) ⊢ MayWait (c : Thread nD τ) (.dma ((cfg0.win w).sem s)) () (OL c l) := fun l =>
      mayWait_OL c _ l fun x _ => by
        rw [show lvS (.dma ((cfg0.win w).sem s)) = 0 by fin_cases w <;> fin_cases s <;> decide +kernel]
        rcases x with i | t
        · exact Nat.one_pos
        · exact lvT_pos t
    rcases t with ⟨_ | _, ht⟩
    · exact h0 allIt
    · exact h0 []

/-- Each window's array is held whole. -/
theorem share_eq (c : Dev nD) (w : Fin cfg0.W) : (dats m ρ 0 c).share w = fullShare := by unfold Dat.share; split <;> rfl

/-- What a window's array holds at the end. -/
def finalA (c : Dev nD) (w : Fin cfg0.W) : Buf (Elt F) ((cfg0.win w).arr.view.loc (c : Thread nD τ)) := (dats m ρ 0 c).arrAt w cfg0.N

set_option maxRecDepth 8000 in
/-- Every run of the program from zero counters ends, with each array as computed and every counter at zero. -/
theorem run_main : θ_run defs (onTc (τ := τ) (main (F := F))) (s₀ m ρ) (fun r =>
    (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      icases (ownU_pair _ _) $$ Hu with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdealProof

end
-- ==== Proof.IRun.lean ====
/-
# The run

What the arrays hold at the end: the argument what it held, the result every device's own rows plus those of its other
half's, written in terms of the argument's contents.
-/
module

public import proofs.«01_k».proof.Proof.ILaunch

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop shareTok)
open Idealize.ShloMosaic.Pipeline (Dat Cfg Window BodyObligation cellOf)

variable {F : FTy → Type} [FloatOps F]
variable (m : (ℓ : Loc nD τ sig) → Buf (Elt F) ℓ) (ρ : Dev nD → PrngReg)

/-- The one block of the argument is the whole of it, -/
theorem X_eq (c : Dev nD) : X m c = m ((c : Thread nD τ).loc main_arg0) := by
  have h : ∀ i : S1x1024x1024.Idx, (win0_0.blk t0_0).view.emb i = i := fun i => by
    funext a
    fin_cases a <;> exact Fin.ext (by show 0 * _ + 1 * _ = _; omega)
  funext i
  exact congrArg (m ((c : Thread nD τ).loc main_arg0)) (h i)
/-- and that of the result. -/
theorem out_read (f : (main_v1 : Ref sig .tc).ty.Contents (Elt F)) : (win0_1.blk t0_0).view.read (Elt F) f = f := by
  have h : ∀ i : S1024x512.Idx, (win0_1.blk t0_0).view.emb i = i := fun i => by
    funext a
    fin_cases a <;> exact Fin.ext (by show 0 * _ + 1 * _ = _; omega)
  funext i
  exact congrArg f (h i)

/-- The argument's array ends as it began, -/
theorem final_x (c : Dev nD) : finalA m ρ c (0 : Fin 2) = m ((c : Thread nD τ).loc main_arg0) :=
  (dats (F := F) m ρ 0 c).arrAt_in (0 : Fin 2) rfl _
/-- and the result's ends as computed. -/
theorem final_out (c : Dev nD) : finalA m ρ c (1 : Fin 2) = outAt m c := by
  refine (out_read _).symm.trans ?_
  unfold finalA
  rw [show cfg0.N = t0_0.val + 1 from rfl, (dats m ρ 0 c).arrAt_succ (1 : Fin 2) t0_0, if_pos (flush0_1 t0_0)]
  exact View.read_write_univ _ _

/-- Every run ends with the argument unchanged and every counter at zero, -/
theorem run_frame : θ_run defs (onTc (τ := τ) (main (F := F))) ⟨m, fun _ => 0, ρ⟩ (fun r =>
    (∀ c : Dev nD, r.2.mem ((c : Thread nD τ).loc main_arg0) = m ((c : Thread nD τ).loc main_arg0)) ∧ r.2.sem = fun _ => 0) :=
  (θ_run defs _ _).mono (fun _ h => ⟨fun c => (h.1 c (0 : Fin 2)).trans (final_x m ρ c), h.2⟩) (run_main m ρ)
/-- and with the result. -/
theorem run_value : θ_run defs (onTc (τ := τ) (main (F := F))) ⟨m, fun _ => 0, ρ⟩ (fun r => ∀ c : Dev nD,
    r.2.mem ((c : Thread nD τ).loc main_v1) = outAt m c ∧ r.2.mem ((c : Thread nD τ).loc main_arg0) = m ((c : Thread nD τ).loc main_arg0)) :=
  (θ_run defs _ _).mono (fun _ h c => ⟨(h.1 c (1 : Fin 2)).trans (final_out m ρ c), (h.1 c (0 : Fin 2)).trans (final_x m ρ c)⟩) (run_main m ρ)

end Cert.KernelIdealProof

end
-- ==== Proof.Value.lean ====
/-
# The value

With exact arithmetic a device's result is its columns of the sum of the argument's two blocks: it adds its own block and,
row by row, the block of a device of the other half, and addition commutes.
-/
module

public import proofs.«01_k».proof.Proof.IRun
public import proofs.«01_k».proof.Proof.Gen.ReferenceIdeal.Run
public import Idealize.ShloMosaic.Lib.Layout
public import Idealize.ShloMosaic.Lib.IdealHost
public import Idealize.ShloMosaic.Lib.Pointwise.Reduce
public import Idealize.ShloMosaic.PureOps.Ideal

@[expose] public section

noncomputable section

namespace Cert.Sum

open Cert.KernelIdeal Cert.KernelIdeal.Gen Cert.KernelIdealProof

open Idealize.ShloMosaic
open Idealize.ShloMosaic.TcCoe

/-! ## Which half a device is in -/

/-- A device lies in one of two halves: -/
theorem half_lt (c : Dev nD) : c.val / 16 < 2 := by have : c.val < 32 := c.isLt; omega
/-- its partner in the other one, -/
theorem partner_half (c : Dev nD) : (partner c).val / 16 = 1 - c.val / 16 := by revert c; decide +kernel
/-- its `y` neighbour in the same, -/
theorem ymate_half (c : Dev nD) : (ymate c).val / 16 = c.val / 16 := by revert c; decide +kernel
/-- and its `z` neighbour too. -/
theorem zmate_half (c : Dev nD) : (zmate c).val / 16 = c.val / 16 := by revert c; decide +kernel

/-- Every row that is added comes from the other half. -/
theorem src_half (c : Dev nD) (r : ℕ) : (srcDev c r).val / 16 = 1 - c.val / 16 := by
  unfold srcDev
  split_ifs <;> simp only [partner_half, ymate_half, zmate_half]

/-! ## The layouts -/

/-- The whole argument, and its index in half `h`, row `r`, column `q`. -/
abbrev Arg : Type := (⟨3, ![2, 1024, 1024]⟩ : Shape).Idx → EReal
def at3 (h r q : ℕ) : (⟨3, ![2, 1024, 1024]⟩ : Shape).Idx
  | ⟨0, _⟩ => ⟨h % 2, Nat.mod_lt _ (by decide)⟩
  | ⟨1, _⟩ => ⟨r % 1024, Nat.mod_lt _ (by decide)⟩
  | ⟨2, _⟩ => ⟨q % 1024, Nat.mod_lt _ (by decide)⟩

/-- A device's block of it is its half. -/
theorem block_at (A : Arg) (c : Dev nD) (r q : ℕ) :
    Layout.blockN ⟨3, ![1, 1024, 1024]⟩ ⟨3, ![2, 1024, 1024]⟩ (Layout.meshBlock [2, 4, 4] ![[0], [], []] c) A (by decide) (xix r q) = A (at3 (c.val / 16) r q) := by
  have hb : ∀ c : Dev nD, (Layout.meshBlock [2, 4, 4] ![[0], [], []] c (by decide) 0).val = c.val / 16 := by decide +kernel
  have hc := half_lt c
  refine congrArg A (funext fun a => Fin.ext ?_)
  fin_cases a
  · show (Layout.meshBlock [2, 4, 4] ![[0], [], []] c (by decide) 0).val * 1 + 0 = c.val / 16 % 2
    rw [hb c]; omega
  · show 0 * 1024 + r % 1024 = r % 1024
    omega
  · show 0 * 1024 + q % 1024 = q % 1024
    omega

/-- The sum over the halves. -/
def total (A : Arg) : (⟨2, ![1024, 1024]⟩ : Shape).Idx → EReal :=
  Host.reduceAdd (F := Ideal) (φ := .f32) A (constant Cert.ReferenceIdeal.S_ .f32 0x00000000#32)
    Cert.ReferenceIdeal.Gen.reducesTo_S2x1024x1024_S1024x1024_d0 Cert.ReferenceIdeal.Gen.h_S_

/-- It at a row and a column: the two halves' entries there, added. -/
theorem total_at (A : Arg) (j : (⟨2, ![1024, 1024]⟩ : Shape).Idx) :
    total A j = A (at3 0 (j 0).val (j 1).val) + A (at3 1 (j 0).val (j 1).val) := by
  have h0 : (j 0).val < 1024 := (j 0).isLt
  have h1 : (j 1).val < 1024 := (j 1).isLt
  have e : ∀ (k : Fin 2) (i : (⟨3, ![2, 1024, 1024]⟩ : Shape).Idx), (i 0).val = k.val → (i 1).val = (j 0).val → (i 2).val = (j 1).val →
      i = at3 k.val (j 0).val (j 1).val := fun k i e0 e1 e2 => by
    have hk := k.isLt
    funext a
    fin_cases a
    · exact Fin.ext (show (i 0).val = k.val % 2 by omega)
    · exact Fin.ext (show (i 1).val = (j 0).val % 1024 by omega)
    · exact Fin.ext (show (i 2).val = (j 1).val % 1024 by omega)
  unfold total
  rw [ValueIdx.hostReduceAdd_apply, Ideal.hostReduceAdd_r3_a0, Fin.sum_univ_two]
  have z : ∀ a a' b b' : EReal, a = a' → b = b' → Ideal.ofBits .f32 0x00000000#32 + (a + b) = a' + b' := by
    rintro a _ b _ rfl rfl
    rw [Ideal.ofBits_zero_f32, zero_add]
  exact z _ _ _ _ (congrArg A (e 0 _ rfl rfl rfl)) (congrArg A (e 1 _ rfl rfl rfl))

/-- A device's result is its columns of the sum. -/
theorem out_total (m : (ℓ : Loc nD τ sig) → Buf (Elt Ideal) ℓ) (A : Arg)
    (hm : ∀ c : Dev nD, m ((c : Thread nD τ).loc main_arg0)
      = Layout.blockN ⟨3, ![1, 1024, 1024]⟩ ⟨3, ![2, 1024, 1024]⟩ (Layout.meshBlock [2, 4, 4] ![[0], [], []] c) A (by decide)) (c : Dev nD) :
    outAt m c = Layout.blockN ⟨2, ![1024, 512]⟩ ⟨2, ![1024, 1024]⟩ (Layout.meshBlock [2, 4, 4] ![[], [0]] c) (total A) (by decide) := by
  have hb : ∀ c : Dev nD, (Layout.meshBlock [2, 4, 4] ![[], [0]] c (by decide) 1).val = c.val / 16 := by decide +kernel
  have hx : ∀ (d : Dev nD) (r q : ℕ), X m d (xix r q) = A (at3 (d.val / 16) r q) := fun d r q => by
    rw [X_eq, hm d]; exact block_at A d r q
  have hc := half_lt c
  funext i
  have hi : ∀ b : (⟨2, ![1024, 1024]⟩ : Shape).Idx, (b 0).val = (i 0).val → (b 1).val = col c + (i 1).val →
      outAt m c i = total A b := fun b h0 h1 => by
    rw [total_at, h0, h1]
    unfold outAt
    rw [hx, hx, src_half]
    show (_ : EReal) + _ = _
    rcases (show c.val / 16 = 0 ∨ c.val / 16 = 1 by omega) with h | h
    · rw [h]
    · rw [h]; exact add_comm _ _
  refine hi _ ?_ ?_
  · show 0 * 1024 + (i 0).val = _
    omega
  · show (Layout.meshBlock [2, 4, 4] ![[], [0]] c (by decide) 1).val * 512 + (i 1).val = 512 * (c.val / 16) + _
    rw [hb c]; omega

end Cert.Sum

end
-- ==== Proof.lean ====
/-
# The claims about the kernel

The runs of the kernel, the run of the reference and the equation of their values, put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KRun
public import proofs.«01_k».proof.Proof.IRun
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference has no semaphore at all, so every counter is at its start value. -/
theorem no_counter (s : (Thread Cert.ReferenceIdeal.nD Cert.ReferenceIdeal.τ × SemLoc Cert.ReferenceIdeal.sig) → ℤ) :
    s = fun _ => 0 :=
  funext fun g => match g with
    | (_, .reg i) => i.elim0
    | (_, .dma i) => i.elim0

/-- The five claims: the kernel ends with its argument unchanged and its counters at zero, at machine floats and at
    the reals; so does the reference; the kernel read at the reals is the kernel's own text; and there each device
    ends with its columns of the reference's sum. -/
theorem claim : Cert.Claim :=
  ⟨Cert.Kernel.Gen.facts, Cert.KernelIdeal.Gen.facts, Cert.ReferenceIdeal.Gen.facts,
    fun m g _ => Cert.KernelProof.run_frame m g,
    fun m g _ => Cert.KernelIdealProof.run_frame m g,
    fun m g _ => (θ_run ..).mono (fun _ h => ⟨fun c => (h c).2, no_counter _⟩) (Cert.ReferenceIdeal.Value.run m g),
    trivial,
    fun m g m' g' _ hm => ⟨Cert.Sum.total (m' (((0 : Dev Cert.ReferenceIdeal.nD).tc : Thread Cert.ReferenceIdeal.nD Cert.ReferenceIdeal.τ).loc Cert.ReferenceIdeal.main_arg0)),
      (θ_run ..).mono (fun _ h c => ⟨(h c).1.trans (Cert.Sum.out_total m _ hm c), (h c).2⟩) (Cert.KernelIdealProof.run_value m g),
      (θ_run ..).mono (fun _ h => h 0) (Cert.ReferenceIdeal.Value.run m' g')⟩⟩

end Cert.Proof

end
